-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x32x64 : S_.BroadcastsInDim S2x256x32x64 (![] : Fin 0 → Fin S2x256x32x64.rank)
  reducesTo_S2x256x32x64_S_d0_1_2_3 : S2x256x32x64.ReducesTo [0, 1, 2, 3] S_

variable [Facts]

def fn {F : FTy → Type} [FloatOps F] (main_arg0 : FVec F S2x256x512 .bf16) (main_arg1 : FVec F S512x256 .bf16) (main_arg2 : FVec F S2x256x32x64 .bf16) (main_arg3 : FVec F S2x256x32x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x32x64 .bf16 := Host.absf main_arg2
  let main_cst_2 : FVec F S_ .bf16 := constant S_ .bf16 0x7F80#16
  let main_v10 : FVec F S2x256x32x64 .bf16 := broadcastInDim S2x256x32x64 ![] bcast_S_S2x256x32x64 main_cst_2
  let main_v11 : IVec S2x256x32x64 1 := cmpf .olt main_v9 main_v10
  let main_c_3 : IVec S_ 1 := constantI S_ 1 1#1
  let main_v12 : IVec S_ 1 := (fun x v => Host.reduce IntOp.andi x v reducesTo_S2x256x32x64_S_d0_1_2_3 h_S_) main_v11 main_c_3
  let main_v13 : IVec S_ 1 := andi main_v8 main_v12
  main_v13
-- ==== Pre_finite_ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x256x32x64 : S_.BroadcastsInDim S2x256x32x64 (![] : Fin 0 → Fin S2x256x32x64.rank)
  reducesTo_S2x256x32x64_S_d0_1_2_3 : S2x256x32x64.ReducesTo [0, 1, 2, 3] S_

variable [Facts]

def fn {F : FTy → Type} [FloatOps F] (main_arg0 : FVec F S2x256x512 .bf16) (main_arg1 : FVec F S512x2048 .bf16) (main_arg2 : FVec F S2x256x32x64 .bf16) (main_arg3 : FVec F S2x256x32x64 .bf16) (main_arg4 : FVec F S2048x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x2048 .bf16 := Host.absf main_arg1
  let main_cst_0 : FVec F S_ .bf16 := constant S_ .bf16 0x7F80#16
  let main_v5 : FVec F S512x2048 .bf16 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x256x32x64 .bf16 := Host.absf main_arg2
  let main_cst_2 : FVec F S_ .bf16 := constant S_ .bf16 0x7F80#16
  let main_v10 : FVec F S2x256x32x64 .bf16 := broadcastInDim S2x256x32x64 ![] bcast_S_S2x256x32x64 main_cst_2
  let main_v11 : IVec S2x256x32x64 1 := cmpf .olt main_v9 main_v10
  let main_c_3 : IVec S_ 1 := constantI S_ 1 1#1
  let main_v12 : IVec S_ 1 := (fun x v => Host.reduce IntOp.andi x v reducesTo_S2x256x32x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩
abbrev S2x256x4x64 : Shape := ⟨4, ![2, 256, 4, 64]⟩
abbrev S2x4x256x64 : Shape := ⟨4, ![2, 4, 256, 64]⟩
abbrev S512x512 : Shape := ⟨2, ![512, 512]⟩
abbrev S8x64x512 : Shape := ⟨3, ![8, 64, 512]⟩
abbrev S64x512 : Shape := ⟨2, ![64, 512]⟩
abbrev S8 : Shape := ⟨1, ![8]⟩
abbrev S256x256 : Shape := ⟨2, ![256, 256]⟩
abbrev S1x256x512 : Shape := ⟨3, ![1, 256, 512]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩
abbrev S1 : Shape := ⟨1, ![1]⟩
abbrev S1x64x512 : Shape := ⟨3, ![1, 64, 512]⟩

abbrev nBuf : Space → Nat
  | .hbm => 40
  | .vmem => 11
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x32x64, .bf16⟩
  | .hbm, ⟨3, _⟩ => ⟨S2x256x32x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x4x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x4x64, .bf16⟩
  | .hbm, ⟨33, _⟩ => ⟨S2x4x256x64, .bf16⟩
  | .hbm, ⟨34, _⟩ => ⟨S2x4x256x64, .bf16⟩
  | .hbm, ⟨35, _⟩ => ⟨S_, .bf16⟩
  | .hbm, ⟨36, _⟩ => ⟨S512x256, .bf16⟩
  | .hbm, ⟨37, _⟩ => ⟨S512x256, .bf16⟩
  | .hbm, ⟨38, _⟩ => ⟨S512x512, .f32⟩
  | .hbm, ⟨39, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x4x256x64, .bf16⟩
  | .local _ .vmem, ⟨3, _⟩ => ⟨S2x4x256x64, .bf16⟩
  | .local _ .vmem, ⟨4, _⟩ => ⟨S256x512, .bf16⟩
  | .local _ .vmem, ⟨5, _⟩ => ⟨S512x512, .f32⟩
  | .local _ .vmem, ⟨6, _⟩ => ⟨S512x512, .bf16⟩
  | .local _ .vmem, ⟨7, _⟩ => ⟨S8x64x512, .bf16⟩
  | .local _ .vmem, ⟨8, _⟩ => ⟨S8x64x512, .bf16⟩
  | .local _ .vmem, ⟨9, _⟩ => ⟨S64x512, .f32⟩
  | .local _ .vmem, ⟨10, _⟩ => ⟨S64x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_120 : BitVec 32 := 0#32
  let v185 : BitVec 1 := Scalar.cmpi .ne v2 c0_i32_120
  let v186 : BitVec 32 := Scalar.extui v185
  let c0_i32_121 : BitVec 32 := 0#32
  let v187 : BitVec 1 := Scalar.cmpi .ne v186 c0_i32_121
  v187

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev8 : Nat :=
  let c0_i32_288 : BitVec 32 := 0#32
  let c0_i32_286 : BitVec 32 := 0#32
  let c1_i32_287 : BitVec 32 := 1#32
  let v424 : BitVec 32 := Scalar.muli c0_i32_286 c1_i32_287
  let v425 : BitVec 32 := Scalar.addi c0_i32_288 v424
  v425.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_122 : BitVec 32 := 1#32
  let v188 : BitVec 1 := Scalar.cmpi .ne v2 c1_i32_122
  let v189 : BitVec 32 := Scalar.extui v188
  let c0_i32_123 : BitVec 32 := 0#32
  let v190 : BitVec 1 := Scalar.cmpi .ne v189 c0_i32_123
  v190

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev9 : Nat :=
  let c0_i32_288 : BitVec 32 := 0#32
  let c1_i32_286 : BitVec 32 := 1#32
  let c1_i32_287 : BitVec 32 := 1#32
  let v424 : BitVec 32 := Scalar.muli c1_i32_286 c1_i32_287
  let v425 : BitVec 32 := Scalar.addi c0_i32_288 v424
  v425.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_124 : BitVec 32 := 2#32
  let v191 : BitVec 1 := Scalar.cmpi .ne v2 c2_i32_124
  let v192 : BitVec 32 := Scalar.extui v191
  let c0_i32_125 : BitVec 32 := 0#32
  let v193 : BitVec 1 := Scalar.cmpi .ne v192 c0_i32_125
  v193

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev10 : Nat :=
  let c0_i32_288 : BitVec 32 := 0#32
  let c2_i32_286 : BitVec 32 := 2#32
  let c1_i32_287 : BitVec 32 := 1#32
  let v424 : BitVec 32 := Scalar.muli c2_i32_286 c1_i32_287
  let v425 : BitVec 32 := Scalar.addi c0_i32_288 v424
  v425.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_126 : BitVec 32 := 3#32
  let v194 : BitVec 1 := Scalar.cmpi .ne v2 c3_i32_126
  let v195 : BitVec 32 := Scalar.extui v194
  let c0_i32_127 : BitVec 32 := 0#32
  let v196 : BitVec 1 := Scalar.cmpi .ne v195 c0_i32_127
  v196

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev11 : Nat :=
  let c0_i32_288 : BitVec 32 := 0#32
  let c3_i32_286 : BitVec 32 := 3#32
  let c1_i32_287 : BitVec 32 := 1#32
  let v424 : BitVec 32 := Scalar.muli c3_i32_286 c1_i32_287
  let v425 : BitVec 32 := Scalar.addi c0_i32_288 v424
  v425.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_186 : BitVec 32 := 4#32
  let v276 : BitVec 1 := Scalar.cmpi .ne v2 c4_i32_186
  let v277 : BitVec 32 := Scalar.extui v276
  let c0_i32_187 : BitVec 32 := 0#32
  let v278 : BitVec 1 := Scalar.cmpi .ne v277 c0_i32_187
  v278

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev12 : Nat :=
  let c0_i32_288 : BitVec 32 := 0#32
  let c4_i32_286 : BitVec 32 := 4#32
  let c1_i32_287 : BitVec 32 := 1#32
  let v424 : BitVec 32 := Scalar.muli c4_i32_286 c1_i32_287
  let v425 : BitVec 32 := Scalar.addi c0_i32_288 v424
  v425.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_188 : BitVec 32 := 5#32
  let v279 : BitVec 1 := Scalar.cmpi .ne v2 c5_i32_188
  let v280 : BitVec 32 := Scalar.extui v279
  let c0_i32_189 : BitVec 32 := 0#32
  let v281 : BitVec 1 := Scalar.cmpi .ne v280 c0_i32_189
  v281

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev13 : Nat :=
  let c0_i32_288 : BitVec 32 := 0#32
  let c5_i32_286 : BitVec 32 := 5#32
  let c1_i32_287 : BitVec 32 := 1#32
  let v424 : BitVec 32 := Scalar.muli c5_i32_286 c1_i32_287
  let v425 : BitVec 32 := Scalar.addi c0_i32_288 v424
  v425.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_190 : BitVec 32 := 6#32
  let v282 : BitVec 1 := Scalar.cmpi .ne v2 c6_i32_190
  let v283 : BitVec 32 := Scalar.extui v282
  let c0_i32_191 : BitVec 32 := 0#32
  let v284 : BitVec 1 := Scalar.cmpi .ne v283 c0_i32_191
  v284

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev14 : Nat :=
  let c0_i32_288 : BitVec 32 := 0#32
  let c6_i32_286 : BitVec 32 := 6#32
  let c1_i32_287 : BitVec 32 := 1#32
  let v424 : BitVec 32 := Scalar.muli c6_i32_286 c1_i32_287
  let v425 : BitVec 32 := Scalar.addi c0_i32_288 v424
  v425.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_192 : BitVec 32 := 7#32
  let v285 : BitVec 1 := Scalar.cmpi .ne v2 c7_i32_192
  let v286 : BitVec 32 := Scalar.extui v285
  let c0_i32_193 : BitVec 32 := 0#32
  let v287 : BitVec 1 := Scalar.cmpi .ne v286 c0_i32_193
  v287

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev15 : Nat :=
  let c0_i32_288 : BitVec 32 := 0#32
  let c7_i32_286 : BitVec 32 := 7#32
  let c1_i32_287 : BitVec 32 := 1#32
  let v424 : BitVec 32 := Scalar.muli c7_i32_286 c1_i32_287
  let v425 : BitVec 32 := Scalar.addi c0_i32_288 v424
  v425.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v288 : BitVec 32 := Scalar.muli v2 c64_i32
  let v289 : Index := Scalar.indexCast v288
  let c0_194 : Index := 0#32
  ![v289.toNat, 0]
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_217 : BitVec 32 := 0#32
  let v324 : BitVec 1 := Scalar.cmpi .ne v2 c0_i32_217
  let v325 : BitVec 32 := Scalar.extui v324
  let c0_i32_218 : BitVec 32 := 0#32
  let v326 : BitVec 1 := Scalar.cmpi .ne v325 c0_i32_218
  v326

def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev16 : Nat :=
  let c0_i32_288 : BitVec 32 := 0#32
  let c0_i32_286 : BitVec 32 := 0#32
  let c1_i32_287 : BitVec 32 := 1#32
  let v424 : BitVec 32 := Scalar.muli c0_i32_286 c1_i32_287
  let v425 : BitVec 32 := Scalar.addi c0_i32_288 v424
  v425.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v327 : BitVec 1 := Scalar.cmpi .ne v2 c1_i32_219
  let v328 : BitVec 32 := Scalar.extui v327
  let c0_i32_220 : BitVec 32 := 0#32
  let v329 : BitVec 1 := Scalar.cmpi .ne v328 c0_i32_220
  v329

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev17 : Nat :=
  let c0_i32_288 : BitVec 32 := 0#32
  let c1_i32_286 : BitVec 32 := 1#32
  let c1_i32_287 : BitVec 32 := 1#32
  let v424 : BitVec 32 := Scalar.muli c1_i32_286 c1_i32_287
  let v425 : BitVec 32 := Scalar.addi c0_i32_288 v424
  v425.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_221 : BitVec 32 := 2#32
  let v330 : BitVec 1 := Scalar.cmpi .ne v2 c2_i32_221
  let v331 : BitVec 32 := Scalar.extui v330
  let c0_i32_222 : BitVec 32 := 0#32
  let v332 : BitVec 1 := Scalar.cmpi .ne v331 c0_i32_222
  v332

def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev18 : Nat :=
  let c0_i32_288 : BitVec 32 := 0#32
  let c2_i32_286 : BitVec 32 := 2#32
  let c1_i32_287 : BitVec 32 := 1#32
  let v424 : BitVec 32 := Scalar.muli c2_i32_286 c1_i32_287
  let v425 : BitVec 32 := Scalar.addi c0_i32_288 v424
  v425.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_223 : BitVec 32 := 3#32
  let v333 : BitVec 1 := Scalar.cmpi .ne v2 c3_i32_223
  let v334 : BitVec 32 := Scalar.extui v333
  let c0_i32_224 : BitVec 32 := 0#32
  let v335 : BitVec 1 := Scalar.cmpi .ne v334 c0_i32_224
  v335

def k0_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev19 : Nat :=
  let c0_i32_288 : BitVec 32 := 0#32
  let c3_i32_286 : BitVec 32 := 3#32
  let c1_i32_287 : BitVec 32 := 1#32
  let v424 : BitVec 32 := Scalar.muli c3_i32_286 c1_i32_287
  let v425 : BitVec 32 := Scalar.addi c0_i32_288 v424
  v425.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_225 : BitVec 32 := 4#32
  let v336 : BitVec 1 := Scalar.cmpi .ne v2 c4_i32_225
  let v337 : BitVec 32 := Scalar.extui v336
  let c0_i32_226 : BitVec 32 := 0#32
  let v338 : BitVec 1 := Scalar.cmpi .ne v337 c0_i32_226
  v338

def k0_off26 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev20 : Nat :=
  let c0_i32_288 : BitVec 32 := 0#32
  let c4_i32_286 : BitVec 32 := 4#32
  let c1_i32_287 : BitVec 32 := 1#32
  let v424 : BitVec 32 := Scalar.muli c4_i32_286 c1_i32_287
  let v425 : BitVec 32 := Scalar.addi c0_i32_288 v424
  v425.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_227 : BitVec 32 := 5#32
  let v339 : BitVec 1 := Scalar.cmpi .ne v2 c5_i32_227
  let v340 : BitVec 32 := Scalar.extui v339
  let c0_i32_228 : BitVec 32 := 0#32
  let v341 : BitVec 1 := Scalar.cmpi .ne v340 c0_i32_228
  v341

def k0_off28 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev21 : Nat :=
  let c0_i32_288 : BitVec 32 := 0#32
  let c5_i32_286 : BitVec 32 := 5#32
  let c1_i32_287 : BitVec 32 := 1#32
  let v424 : BitVec 32 := Scalar.muli c5_i32_286 c1_i32_287
  let v425 : BitVec 32 := Scalar.addi c0_i32_288 v424
  v425.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_229 : BitVec 32 := 6#32
  let v342 : BitVec 1 := Scalar.cmpi .ne v2 c6_i32_229
  let v343 : BitVec 32 := Scalar.extui v342
  let c0_i32_230 : BitVec 32 := 0#32
  let v344 : BitVec 1 := Scalar.cmpi .ne v343 c0_i32_230
  v344

def k0_off30 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev22 : Nat :=
  let c0_i32_288 : BitVec 32 := 0#32
  let c6_i32_286 : BitVec 32 := 6#32
  let c1_i32_287 : BitVec 32 := 1#32
  let v424 : BitVec 32 := Scalar.muli c6_i32_286 c1_i32_287
  let v425 : BitVec 32 := Scalar.addi c0_i32_288 v424
  v425.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_231 : BitVec 32 := 7#32
  let v345 : BitVec 1 := Scalar.cmpi .ne v2 c7_i32_231
  let v346 : BitVec 32 := Scalar.extui v345
  let c0_i32_232 : BitVec 32 := 0#32
  let v347 : BitVec 1 := Scalar.cmpi .ne v346 c0_i32_232
  v347

def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_dev23 : Nat :=
  let c0_i32_288 : BitVec 32 := 0#32
  let c7_i32_286 : BitVec 32 := 7#32
  let c1_i32_287 : BitVec 32 := 1#32
  let v424 : BitVec 32 := Scalar.muli c7_i32_286 c1_i32_287
  let v425 : BitVec 32 := Scalar.addi c0_i32_288 v424
  v425.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_233 : BitVec 32 := 0#32
  let v348 : BitVec 1 := Scalar.cmpi .ne v2 c0_i32_233
  let v349 : BitVec 32 := Scalar.extui v348
  let c0_i32_234 : BitVec 32 := 0#32
  let v350 : BitVec 1 := Scalar.cmpi .ne v349 c0_i32_234
  v350

def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_290 : BitVec 32 := 0#32
  let c0_i32_291 : BitVec 32 := 0#32
  ![v2.toNat, 0, 0]
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v351 : BitVec 1 := Scalar.cmpi .ne v2 c1_i32_235
  let v352 : BitVec 32 := Scalar.extui v351
  let c0_i32_236 : BitVec 32 := 0#32
  let v353 : BitVec 1 := Scalar.cmpi .ne v352 c0_i32_236
  v353

def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_290 : BitVec 32 := 0#32
  let c0_i32_291 : BitVec 32 := 0#32
  ![v2.toNat, 0, 0]
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_237 : BitVec 32 := 2#32
  let v354 : BitVec 1 := Scalar.cmpi .ne v2 c2_i32_237
  let v355 : BitVec 32 := Scalar.extui v354
  let c0_i32_238 : BitVec 32 := 0#32
  let v356 : BitVec 1 := Scalar.cmpi .ne v355 c0_i32_238
  v356

def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_290 : BitVec 32 := 0#32
  let c0_i32_291 : BitVec 32 := 0#32
  ![v2.toNat, 0, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_239 : BitVec 32 := 3#32
  let v357 : BitVec 1 := Scalar.cmpi .ne v2 c3_i32_239
  let v358 : BitVec 32 := Scalar.extui v357
  let c0_i32_240 : BitVec 32 := 0#32
  let v359 : BitVec 1 := Scalar.cmpi .ne v358 c0_i32_240
  v359

def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_241 : BitVec 32 := 4#32
  let v360 : BitVec 1 := Scalar.cmpi .ne v2 c4_i32_241
  let v361 : BitVec 32 := Scalar.extui v360
  let c0_i32_242 : BitVec 32 := 0#32
  let v362 : BitVec 1 := Scalar.cmpi .ne v361 c0_i32_242
  v362

def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_243 : BitVec 32 := 5#32
  let v363 : BitVec 1 := Scalar.cmpi .ne v2 c5_i32_243
  let v364 : BitVec 32 := Scalar.extui v363
  let c0_i32_244 : BitVec 32 := 0#32
  let v365 : BitVec 1 := Scalar.cmpi .ne v364 c0_i32_244
  v365

def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_245 : BitVec 32 := 6#32
  let v366 : BitVec 1 := Scalar.cmpi .ne v2 c6_i32_245
  let v367 : BitVec 32 := Scalar.extui v366
  let c0_i32_246 : BitVec 32 := 0#32
  let v368 : BitVec 1 := Scalar.cmpi .ne v367 c0_i32_246
  v368

def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_247 : BitVec 32 := 7#32
  let v369 : BitVec 1 := Scalar.cmpi .ne v2 c7_i32_247
  let v370 : BitVec 32 := Scalar.extui v369
  let c0_i32_248 : BitVec 32 := 0#32
  let v371 : BitVec 1 := Scalar.cmpi .ne v370 c0_i32_248
  v371

def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_289 : BitVec 32 := 0#32
  let c0_i32_290 : BitVec 32 := 0#32
  ![v2.toNat, 0, 0]
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_269 : BitVec 32 := 0#32
  let v400 : BitVec 1 := Scalar.cmpi .ne v2 c0_i32_269
  let v401 : BitVec 32 := Scalar.extui v400
  let c0_i32_270 : BitVec 32 := 0#32
  let v402 : BitVec 1 := Scalar.cmpi .ne v401 c0_i32_270
  v402

def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_288 : BitVec 32 := 0#32
  let c0_i32_289 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_271 : BitVec 32 := 1#32
  let v403 : BitVec 1 := Scalar.cmpi .ne v2 c1_i32_271
  let v404 : BitVec 32 := Scalar.extui v403
  let c0_i32_272 : BitVec 32 := 0#32
  let v405 : BitVec 1 := Scalar.cmpi .ne v404 c0_i32_272
  v405

def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_288 : BitVec 32 := 0#32
  let c0_i32_289 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_273 : BitVec 32 := 2#32
  let v406 : BitVec 1 := Scalar.cmpi .ne v2 c2_i32_273
  let v407 : BitVec 32 := Scalar.extui v406
  let c0_i32_274 : BitVec 32 := 0#32
  let v408 : BitVec 1 := Scalar.cmpi .ne v407 c0_i32_274
  v408

def k0_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_288 : BitVec 32 := 0#32
  let c0_i32_289 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_275 : BitVec 32 := 3#32
  let v409 : BitVec 1 := Scalar.cmpi .ne v2 c3_i32_275
  let v410 : BitVec 32 := Scalar.extui v409
  let c0_i32_276 : BitVec 32 := 0#32
  let v411 : BitVec 1 := Scalar.cmpi .ne v410 c0_i32_276
  v411

def k0_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_288 : BitVec 32 := 0#32
  let c0_i32_289 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_277 : BitVec 32 := 4#32
  let v412 : BitVec 1 := Scalar.cmpi .ne v2 c4_i32_277
  let v413 : BitVec 32 := Scalar.extui v412
  let c0_i32_278 : BitVec 32 := 0#32
  let v414 : BitVec 1 := Scalar.cmpi .ne v413 c0_i32_278
  v414

def k0_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_288 : BitVec 32 := 0#32
  let c0_i32_289 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_279 : BitVec 32 := 5#32
  let v415 : BitVec 1 := Scalar.cmpi .ne v2 c5_i32_279
  let v416 : BitVec 32 := Scalar.extui v415
  let c0_i32_280 : BitVec 32 := 0#32
  let v417 : BitVec 1 := Scalar.cmpi .ne v416 c0_i32_280
  v417

def k0_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_288 : BitVec 32 := 0#32
  let c0_i32_289 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_281 : BitVec 32 := 6#32
  let v418 : BitVec 1 := Scalar.cmpi .ne v2 c6_i32_281
  let v419 : BitVec 32 := Scalar.extui v418
  let c0_i32_282 : BitVec 32 := 0#32
  let v420 : BitVec 1 := Scalar.cmpi .ne v419 c0_i32_282
  v420

def k0_off48 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_288 : BitVec 32 := 0#32
  let c0_i32_289 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_283 : BitVec 32 := 7#32
  let v421 : BitVec 1 := Scalar.cmpi .ne v2 c7_i32_283
  let v422 : BitVec 32 := Scalar.extui v421
  let c0_i32_284 : BitVec 32 := 0#32
  let v423 : BitVec 1 := Scalar.cmpi .ne v422 c0_i32_284
  v423

def k0_off49 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_288 : BitVec 32 := 0#32
  let c0_i32_289 : BitVec 32 := 0#32
  ![v2.toNat, 0, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S2x256x2048 : Shape := ⟨3, ![2, 256, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x32x256x256 : Shape := ⟨4, ![2, 32, 256, 256]⟩
abbrev S1x1x256x256 : Shape := ⟨4, ![1, 1, 256, 256]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 62
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x2048, .bf16⟩
  | .hbm, ⟨2, _⟩ => ⟨S2x256x32x64, .bf16⟩
  | .hbm, ⟨3, _⟩ => ⟨S2x256x32x64, .bf16⟩
  | .hbm, ⟨4, _⟩ => ⟨S2048x512, .bf16⟩
  | .hbm, ⟨5, _⟩ => ⟨S2x256x2048, .f32⟩
  | .hbm, ⟨6, _⟩ => ⟨S2x256x2048, .bf16⟩
  | .hbm, ⟨7, _⟩ => ⟨S2x256x32x64, .bf16⟩
  | .hbm, ⟨8, _⟩ => ⟨S256, .i32⟩
  | .hbm, ⟨9, _⟩ => ⟨S256x1, .i32⟩
  | .hbm, ⟨10, _⟩ => ⟨S256, .i32⟩
  | .hbm, ⟨11, _⟩ => ⟨S1x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S2x32x256x256, .f32⟩
  | .hbm, ⟨20, _⟩ => ⟨S2x32x256x256, .bf16⟩
  | .hbm, ⟨21, _⟩ => ⟨S2x32x256x256, .f32⟩
  | .hbm, ⟨22, _⟩ => ⟨S_, .f32⟩
  | .hbm, ⟨23, _⟩ => ⟨S2x32x256x256, .f32⟩
  | .hbm, ⟨24, _⟩ => ⟨S2x32x256x256, .f32⟩
  | .hbm, ⟨25, _⟩ => ⟨S1x1x256x256, .i1⟩
  | .hbm, ⟨26, _⟩ => ⟨S_, .f32⟩
  | .hbm, ⟨27, _⟩ => ⟨S_, .f32⟩
  | .hbm, ⟨28, _⟩ => ⟨S2x32x256x256, .i1⟩
  | .hbm, ⟨29, _⟩ => ⟨S2x32x256x256, .f32⟩
  | .hbm, ⟨30, _⟩ => ⟨S2x32x256x256, .f32⟩
  | .hbm, ⟨31, _⟩ => ⟨S_, .f32⟩
  | .hbm, ⟨32, _⟩ => ⟨S2x32x256, .f32⟩
  | .hbm, ⟨33, _⟩ => ⟨S2x32x256x1, .f32⟩
  | .hbm, ⟨34, _⟩ => ⟨S2x32x256x256, .f32⟩
  | .hbm, ⟨35, _⟩ => ⟨S2x32x256x256, .f32⟩
  | .hbm, ⟨36, _⟩ => ⟨S2x32x256x256, .f32⟩
  | .hbm, ⟨37, _⟩ => ⟨S_, .i1⟩
  | .hbm, ⟨38, _⟩ => ⟨S256, .i1⟩
  | .hbm, ⟨39, _⟩ => ⟨S1x1x256x1, .i1⟩
  | .hbm, ⟨40, _⟩ => ⟨S_, .f32⟩
  | .hbm, ⟨41, _⟩ => ⟨S2x32x256, .f32⟩
  | .hbm, ⟨42, _⟩ => ⟨S2x32x256x1, .f32⟩
  | .hbm, ⟨43, _⟩ => ⟨S_, .f32⟩
  | .hbm, ⟨44, _⟩ => ⟨S_, .f32⟩
  | .hbm, ⟨45, _⟩ => ⟨S2x32x256x1, .i1⟩
  | .hbm, ⟨46, _⟩ => ⟨S2x32x256x1, .f32⟩
  | .hbm, ⟨47, _⟩ => ⟨S2x32x256x1, .f32⟩
  | .hbm, ⟨48, _⟩ => ⟨S2x32x256x256, .f32⟩
  | .hbm, ⟨49, _⟩ => ⟨S2x32x256x256, .f32⟩
  | .hbm, ⟨50, _⟩ => ⟨S1x1x256x1, .i1⟩
  | .hbm, ⟨51, _⟩ => ⟨S_, .f32⟩
  | .hbm, ⟨52, _⟩ => ⟨S_, .f32⟩
  | .hbm, ⟨53, _⟩ => ⟨S2x32x256x256, .i1⟩
  | .hbm, ⟨54, _⟩ => ⟨S2x32x256x256, .f32⟩
  | .hbm, ⟨55, _⟩ => ⟨S2x32x256x256, .f32⟩
  | .hbm, ⟨56, _⟩ => ⟨S2x256x32x64, .f32⟩
  | .hbm, ⟨57, _⟩ => ⟨S2x32x64x256, .f32⟩
  | .hbm, ⟨58, _⟩ => ⟨S2x256x32x64, .f32⟩
  | .hbm, ⟨59, _⟩ => ⟨S2x256x2048, .f32⟩
  | .hbm, ⟨60, _⟩ => ⟨S2048x512, .f32⟩
  | .hbm, ⟨61, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

def κ : String → Option EReal := fun
  | "mask" => some ⊥
  | _ => none
-- ==== Proof.Words.lean ====
/-
# The kernel and its idealized text are one program on machine words

The idealized kernel differs from the compiled one only in naming its mask constant. Read at machine words, with the name
standing for the constant's own bits, the two are the same program.
-/
module

public import proofs.«01_k».proof.Defs
public import proofs.«01_k».proof.Proof.Gen.Kernel
public import proofs.«01_k».proof.Proof.Gen.KernelIdeal

@[expose] public section

set_option maxRecDepth 16384

noncomputable section

namespace Cert.Proof

open Idealize.ShloMosaic Idealize.SL.Sem

/-- At machine words a named constant is its bits. -/
@[reducible] def namedBits : Named Bits := ⟨fun _ _ {_} b => FloatOps.ofBits _ b⟩

attribute [local instance] namedBits
attribute [local instance] Cert.KernelIdeal.Gen.facts Cert.Kernel.Gen.facts

/-- The two host programs are one. -/
theorem same_main (d) : Cert.KernelIdeal.main (F := Bits) d = Cert.Kernel.main (F := Bits) d := rfl

/-- The two kernel bodies are one. -/
theorem same_defs0 : Cert.KernelIdeal.defs₀ (F := Bits) = Cert.Kernel.defs₀ (F := Bits) :=
  congrArg (Defs.onTc (nD := Cert.Kernel.nD) (τ := Cert.Kernel.τ) (sig := Cert.Kernel.sig) (Val := Elt Bits) (Λ := Cert.Kernel.Λ₀)) (by
    funext l a
    match l, a with
    | 0, (t, s) => rfl
    | ⟨_ + 1, h⟩, _ => exact absurd h (Nat.not_lt.2 (Nat.le_add_left _ _)))

/-- The two programs' definitions are one. -/
theorem same_defs : Cert.KernelIdeal.defs (F := Bits) = Cert.Kernel.defs (F := Bits) :=
  congrArg (Pipeline.defs (Cert.Kernel.pcfgs (F := Bits))) same_defs0

end Cert.Proof

end
-- ==== Proof.Protocol.lean ====
/-
# The protocol of the two exchanges

Eight devices. Every device first tells each peer that its landing slots are free (the barrier semaphore), then sends
each peer one 64-row chunk of its partial product, adds up what it receives, and sends the sum, rounded, to all peers.

A device has one barrier cell and four rows of eight transfer cells:
row 0 (chunk sent), row 1 (chunk landed), row 2 (sum sent), row 3 (sum landed), one cell per peer. The cell of a row at
the device's own number is never used. All cells go through one round.

The schedule below is stated over the values that travel: `ch s t` is the chunk device `s` sends device `t`, `rb s` the
rounded sum device `s` sends everybody.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.StableHlo.CollectiveRules
public import Idealize.ShloMosaic.Lib.Tactic
public import Idealize.ShloMosaic.Harness.Basic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

/-! ## Resources -/

/-- The exchange's own rounds: duties are named by devices. -/
abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The pieces of memory that travel -/

theorem inb_chunk (j : Dev nD) : ∀ a, (![64 * j.val, 0] : Fin 2 → Nat) a + S64x512.size a ≤ S512x512.size a := by
  revert j; decide
theorem inb_slot (j : Dev nD) : ∀ a, (![j.val, 0, 0] : Fin 3 → Nat) a + S1x64x512.size a ≤ S8x64x512.size a := by
  revert j; decide

/-- Rows `64 j … 64 j + 63` of a 512×512 array. -/
abbrev rowR (j : Dev nD) : Rect S512x512 := Rect.unit (s := S512x512) ![64 * j.val, 0] S64x512.size (inb_chunk j)
/-- Slot `j` of an 8×64×512 array. -/
abbrev slotR (j : Dev nD) : Rect S8x64x512 := Rect.unit (s := S8x64x512) ![j.val, 0, 0] S1x64x512.size (inb_slot j)

/-- Chunk `j` of the partial product, 64 rows. -/
abbrev pM (j : Dev nD) : Memref sig .tc .vmem S64x512 .bf16 := (Memref.whole cc0_scratch0).slice (rowR j) (fun _ => rfl)
/-- Landing slot `j` of the first exchange. -/
abbrev rM (j : Dev nD) : Memref sig .tc .vmem S64x512 .bf16 :=
  ((Memref.whole cc0_scratch1).slice (slotR j) (fun _ => rfl)).squeeze S64x512 squeezes_S1x64x512_S64x512
/-- Landing slot `j` of the second exchange. -/
abbrev aM (j : Dev nD) : Memref sig .tc .vmem S64x512 .bf16 :=
  ((Memref.whole cc0_scratch2).slice (slotR j) (fun _ => rfl)).squeeze S64x512 squeezes_S1x64x512_S64x512
/-- The running sum. -/
abbrev sM : Memref sig .tc .vmem S64x512 .f32 := Memref.whole cc0_scratch3
/-- The rounded sum. -/
abbrev dM : Memref sig .tc .vmem S64x512 .bf16 := Memref.whole cc0_scratch4
/-- The output staging buffer, and 64 of its rows. -/
abbrev oM (j : Dev nD) : Memref sig .tc .vmem S64x512 .f32 := (Memref.whole cc0_stg5_0).slice (rowR j) (fun _ => rfl)

/-- A 64×512 block of values. -/
abbrev Blk (F : FTy → Type) : Type := S64x512.Idx → Elt F .bf16

/-- `c` owns memref `M` at contents `X`. -/
abbrev own₁ {s : Shape} {e : EltTy} (c : Dev nD) (M : Memref sig .tc .vmem s e) (X : s.Idx → Elt F e) : sProp 𝕄 :=
  owns (c : Thread nD τ) M fullShare X

/-- The share of the rounded sum that travels to peer `t`. -/
abbrev shr (t : Dev nD) : PosShare TreeShare := PosShare.pieces 8 fullShare t

/-! ## Cells -/

abbrev barS : Sem sig := (SemArray.scalar (sig.barrier 0 rfl) : Sems sig S_).sem

theorem xs_lt (k : Fin 4) (j : Dev nD) : 6 + 8 * k.val + j.val < 38 := by
  have := k.isLt; have : j.val < 8 := j.isLt; omega
/-- Transfer semaphore of row `k` at peer `j`. -/
abbrev xs (k : Fin 4) (j : Dev nD) : DmaSem sig := (⟨6 + 8 * k.val + j.val, xs_lt k j⟩ : Fin 38)

abbrev barCell (c : Dev nD) : GSem nD τ sig := ((c : Thread nD τ), .reg barS)
abbrev xCell (k : Fin 4) (c j : Dev nD) : GSem nD τ sig := ((c : Thread nD τ), .dma (xs k j))

/-- The row of a transfer semaphore. -/
def rowOf (i : Fin 38) : Fin 4 := ⟨(i.val - 6) / 8, by have := i.isLt; omega⟩
/-- The peer of a transfer semaphore. -/
def laneOf (i : Fin 38) : Dev nD := (⟨(i.val - 6) % 8, by omega⟩ : Fin 8)

theorem rowOf_xs (k : Fin 4) (j : Dev nD) : rowOf (xs k j) = k := by revert k j; decide
theorem laneOf_xs (k : Fin 4) (j : Dev nD) : laneOf (xs k j) = j := by revert k j; decide
theorem six_le_xs (k : Fin 4) (j : Dev nD) : 6 ≤ (xs k j : Fin 38).val := by revert k j; decide

/-- What one transfer credits its cells. -/
abbrev N : ℕ := (dM : Memref sig .tc .vmem S64x512 .bf16).view.dmaCredit
theorem N_pos : 0 < N := View.dmaCredit_pos _ (by decide)

/-! ## The schedule -/

section Schedule

variable (ch : Dev nD → Dev nD → Blk F) (rb : Dev nD → Blk F)

/-- What `e`'s signal hands `c`: `e`'s two landing slots for `c`, and that `e`'s landing cells for `c` are open. -/
def barPay (c e : Dev nD) : sProp 𝕄 :=
  iprop((∃ X, own₁ e (rM c) X) ∗ (∃ X, own₁ e (aM c) X) ∗ reached ER (xCell 1 e c) 0 ∗ reached ER (xCell 3 e c) 0)

/-- What a transfer pays into `c`'s cell of row `k` at peer `j`: the source back, or the landing slot at what arrived. -/
def xPay (k : Fin 4) (c j : Dev nD) : sProp 𝕄 :=
  match k with
  | 0 => own₁ c (pM j) (ch c j)
  | 1 => own₁ c (rM j) (ch j c)
  | 2 => owns (c : Thread nD τ) dM (shr j) (rb c)
  | 3 => own₁ c (aM j) (rb j)

instance barPay_storable (c e : Dev nD) : BI.Storable (upEmb : UEmb _ 𝕄) (barPay (F := F) c e) := by
  unfold barPay; infer_instance
instance xPay_storable (k : Fin 4) (c j : Dev nD) : BI.Storable (upEmb : UEmb _ 𝕄) (xPay ch rb k c j) := by
  unfold xPay; split <;> infer_instance

/-- One round. A barrier cell has one duty of one unit per peer; a transfer cell one duty, named by its peer, of one
    block's credit. -/
def rd : Rounds.Schedule (GSem nD τ sig) (Dev nD) 𝕄 where
  duties g r := if r = 0 ∧ g.1.2 = .tc then
      (match g.2 with
        | .reg _ => Finset.univ.erase g.1.1
        | .dma i => if 6 ≤ (i : Fin 38).val then ({laneOf i} : Finset (Dev nD)).erase g.1.1 else ∅)
    else ∅
  unitless _ := False
  amount g _ _ := match g.2 with | .reg _ => 1 | .dma _ => N
  payload g _ d := match g.2 with | .reg _ => barPay g.1.1 d | .dma i => xPay ch rb (rowOf i) g.1.1 (laneOf i)
  amount_pos g _ _ _ := by
    show 0 < (match g.2 with | .reg _ => 1 | .dma _ => N)
    split
    · exact Nat.one_pos
    · exact N_pos

instance rd_storable (g : GSem nD τ sig) (r : ℕ) (d : Dev nD) :
    BI.Storable (upEmb : UEmb _ 𝕄) ((rd ch rb).payload g r d) := by
  show BI.Storable upEmb (match g.2 with | .reg _ => barPay g.1.1 d | .dma i => xPay ch rb (rowOf i) g.1.1 (laneOf i))
  split <;> infer_instance

theorem duties_bar (c : Dev nD) : (rd ch rb).duties (barCell c) 0 = Finset.univ.erase c := by
  dsimp only [rd]; exact if_pos ⟨rfl, rfl⟩

theorem duties_x (k : Fin 4) {c j : Dev nD} (h : j ≠ c) : (rd ch rb).duties (xCell k c j) 0 = {j} := by
  dsimp only [rd]
  rw [if_pos ⟨rfl, rfl⟩, if_pos (six_le_xs k j), laneOf_xs]
  exact Finset.erase_eq_of_notMem fun hm => h (Finset.mem_singleton.mp hm).symm

/-- The cell at a device's own number has no duty. -/
theorem duties_self (k : Fin 4) (c : Dev nD) : (rd ch rb).duties (xCell k c c) 0 = ∅ := by
  dsimp only [rd]
  rw [if_pos ⟨rfl, rfl⟩, if_pos (six_le_xs k c), laneOf_xs]
  ext d; simp

theorem duties_later (g : GSem nD τ sig) : ∀ r, 0 + 1 ≤ r → (rd ch rb).duties g r = ∅ :=
  fun r hr => by dsimp only [rd]; exact if_neg fun h => by omega

theorem duties_never (k : Fin 4) (c : Dev nD) : ∀ r, 0 ≤ r → (rd ch rb).duties (xCell k c c) r = ∅ := fun r _ => by
  rcases Nat.eq_zero_or_pos r with rfl | h
  · exact duties_self ch rb k c
  · exact duties_later ch rb _ r (by omega)

theorem amount_bar (c d : Dev nD) : (rd ch rb).amount (barCell c) 0 d = 1 := rfl
theorem amount_x (k : Fin 4) (c j d : Dev nD) : (rd ch rb).amount (xCell k c j) 0 d = N := rfl

theorem expect_bar (c : Dev nD) : (rd ch rb).expect (barCell c) 0 = 7 := by
  unfold Schedule.expect Schedule.amountOf
  rw [duties_bar, Finset.sum_congr rfl fun d _ => amount_bar ch rb c d, Finset.sum_const, smul_eq_mul, mul_one,
    Finset.card_erase_of_mem (Finset.mem_univ c)]
  rfl
theorem expect_x (k : Fin 4) {c j : Dev nD} (h : j ≠ c) : (rd ch rb).expect (xCell k c j) 0 = N := by
  unfold Schedule.expect Schedule.amountOf
  rw [duties_x ch rb k h, Finset.sum_singleton, amount_x]

theorem payload_bar (c e : Dev nD) : (rd ch rb).payload (barCell c) 0 e = barPay c e := rfl
theorem payload_x (k : Fin 4) (c j d : Dev nD) : (rd ch rb).payload (xCell k c j) 0 d = xPay ch rb k c j := by
  show xPay ch rb (rowOf (xs k j)) c (laneOf (xs k j)) = _
  rw [rowOf_xs, laneOf_xs]

theorem rest_bar (c : Dev nD) : bigSep ((rd ch rb).duties (barCell c) 0 \ ∅) (fun d => (rd ch rb).payload (barCell c) 0 d)
    = bigSep (Finset.univ.erase c) (fun e => barPay (F := F) c e) := by
  rw [Finset.sdiff_empty, duties_bar]; rfl
theorem rest_x (k : Fin 4) {c j : Dev nD} (h : j ≠ c) :
    bigSep ((rd ch rb).duties (xCell k c j) 0 \ ∅) (fun d => (rd ch rb).payload (xCell k c j) 0 d) = xPay ch rb k c j := by
  rw [Finset.sdiff_empty, duties_x ch rb k h, bigSep_singleton, payload_x]

end Schedule

/-! ## What is owed, and the levels -/

/-- A debt of `n` on each of the cells `K t`, `t` in `T`. -/
def owe (K : Dev nD → GSem nD τ sig) (n : ℕ) (T : Finset (Dev nD)) : CellTallies nD τ sig Unit :=
  ∑ t ∈ T, tallyAt (K t) () n

/-- Paying one of the cells takes it off the debt. -/
theorem owe_erase (K : Dev nD → GSem nD τ sig) (n : ℕ) {T : Finset (Dev nD)} {t : Dev nD} (h : t ∈ T) :
    owe K n T = owe K n (T.erase t) + tallyAt (K t) () n := (Finset.sum_erase_add T _ h).symm

theorem owe_empty (K : Dev nD → GSem nD τ sig) (n : ℕ) : owe K n ∅ = 0 := Finset.sum_empty

theorem owe_pos {K : Dev nD → GSem nD τ sig} {n : ℕ} {T : Finset (Dev nD)} {g : GSem nD τ sig} {u : Unit}
    (h : 0 < owe K n T g u) : ∃ t ∈ T, g = K t := by
  induction T using Finset.induction_on with
  | empty => rw [owe_empty] at h; exact absurd h (Nat.lt_irrefl 0)
  | insert a s ha ih =>
    unfold owe at h ih
    rw [Finset.sum_insert ha, Pi.add_apply, Finsupp.add_apply, tallyAt_apply] at h
    by_cases hg : g = K a
    · exact ⟨a, Finset.mem_insert_self _ _, hg⟩
    · rw [if_neg fun h' => hg h'.1, Nat.zero_add] at h
      obtain ⟨t, ht, e⟩ := ih h
      exact ⟨t, Finset.mem_insert_of_mem ht, e⟩

/-- The debt of device `c` in chunks and in sums still to be sent to the devices of `T`, and in signals. -/
abbrev oweA (c : Dev nD) (T : Finset (Dev nD)) : CellTallies nD τ sig Unit := owe (fun t => xCell 1 t c) N T
abbrev oweC (c : Dev nD) (T : Finset (Dev nD)) : CellTallies nD τ sig Unit := owe (fun t => xCell 3 t c) N T
abbrev oweB (T : Finset (Dev nD)) : CellTallies nD τ sig Unit := owe barCell 1 T

/-- All peers of `c`. -/
abbrev peers (c : Dev nD) : Finset (Dev nD) := Finset.univ.erase c

/-- At launch device `c` owes every peer a signal, a chunk and a sum. -/
def O₀ (c : Dev nD) : CellTallies nD τ sig Unit := (oweC c (peers c) + oweA c (peers c)) + oweB (peers c)

def L (g : GSem nD τ sig) : Finset Unit := if g.1.2 = .tc then {()} else ∅
/-- Barrier cells at 1, landed chunks at 2, landed sums at 3, the rest at 0. -/
def lv (g : GSem nD τ sig) (_ : Unit) : ℕ :=
  match g.2 with
  | .reg _ => 1
  | .dma i => if 14 ≤ (i : Fin 38).val ∧ (i : Fin 38).val < 22 then 2 else if 30 ≤ (i : Fin 38).val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_x1 (c j : Dev nD) : lv (xCell 1 c j) () = 2 := by revert c j; decide
theorem lv_x3 (c j : Dev nD) : lv (xCell 3 c j) () = 3 := by revert c j; decide

theorem add_pos_or {O O' : CellTallies nD τ sig Unit} {g : GSem nD τ sig} {u : Unit} (h : 0 < (O + O') g u) :
    0 < O g u ∨ 0 < O' g u := by
  rw [Pi.add_apply, Finsupp.add_apply] at h; omega

/-- Everything owed is owed on a core's cell of positive level. -/
theorem O₀_pos {c : Dev nD} {g : GSem nD τ sig} {u : Unit} (h : 0 < O₀ c g u) : g.1.2 = .tc ∧ 0 < lv g () := by
  unfold O₀ at h
  rcases add_pos_or h with h | h
  · rcases add_pos_or h with h | h
    · obtain ⟨t, -, rfl⟩ := owe_pos h; exact ⟨rfl, by rw [lv_x3]; decide⟩
    · obtain ⟨t, -, rfl⟩ := owe_pos h; exact ⟨rfl, by rw [lv_x1]; decide⟩
  · obtain ⟨t, -, rfl⟩ := owe_pos h; exact ⟨rfl, by rw [lv_bar]; decide⟩

/-- A wait at a level below everything owed is allowed. -/
theorem mayWait_of (c : Dev nD) (sm : SemLoc sig) (O : CellTallies nD τ sig Unit) (n : ℕ)
    (hs : lv ((c : Thread nD τ), sm) () ≤ n) (hO : ∀ g u, 0 < O g u → g.1.2 = .tc ∧ n < lv g ()) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by
      show u ∈ (if g.1.2 = .tc then ({()} : Finset Unit) else ∅)
      rw [if_pos (hO g u hg).1]; exact Finset.mem_singleton_self _)
    (fun p hp => by rw [Finset.mem_singleton.mp hp]; exact hs)
    (fun g u hg => (hO g u hg).2)

theorem mayWait_bar (c : Dev nD) (T T' : Finset (Dev nD)) :
    (levAts L lv : sProp 𝕄) ⊢ MayWait (c : Thread nD τ) (.reg barS) () (oweC c T + oweA c T') :=
  mayWait_of c _ _ 1 le_rfl fun g u hg => by
    rcases add_pos_or hg with h | h
    · obtain ⟨t, -, rfl⟩ := owe_pos h; exact ⟨rfl, by rw [lv_x3]; decide⟩
    · obtain ⟨t, -, rfl⟩ := owe_pos h; exact ⟨rfl, by rw [lv_x1]; decide⟩

theorem mayWait_chunk (c j : Dev nD) (T : Finset (Dev nD)) :
    (levAts L lv : sProp 𝕄) ⊢ MayWait (c : Thread nD τ) (.dma (xs 1 j)) () (oweC c T) :=
  mayWait_of c _ _ 2 (le_of_eq (lv_x1 c j)) fun g u hg => by
    obtain ⟨t, -, rfl⟩ := owe_pos hg; exact ⟨rfl, by rw [lv_x3]; decide⟩

/-! ## All cells under one index -/

/-- A device's cells: its barrier cell, or a row and a peer. -/
abbrev Cid : Type := Dev nD × Option (Fin 4 × Dev nD)
def cellAt (x : Cid) : GSem nD τ sig :=
  match x.2 with
  | none => barCell x.1
  | some (k, j) => xCell k x.1 j

section Invs

variable (ch : Dev nD → Dev nD → Blk F) (rb : Dev nD → Blk F)

/-- The invariants of all cells, at the names `K`. -/
def invs (K : GSem nD τ sig → ℕ) : sProp 𝕄 :=
  bigSep (Finset.univ : Finset Cid) fun x => cellInv ER (rd ch rb) (K (cellAt x)) (cellAt x)

instance invs_persistent (K : GSem nD τ sig → ℕ) : BI.Persistent (invs ch rb K) := by unfold invs; infer_instance

theorem invs_bar (K : GSem nD τ sig → ℕ) (c : Dev nD) : invs ch rb K ⊢ cellInv ER (rd ch rb) (K (barCell c)) (barCell c) :=
  bigSep_elim (i := ((c, none) : Cid)) (Finset.mem_univ _)
theorem invs_x (K : GSem nD τ sig → ℕ) (k : Fin 4) (c j : Dev nD) :
    invs ch rb K ⊢ cellInv ER (rd ch rb) (K (xCell k c j)) (xCell k c j) :=
  bigSep_elim (i := ((c, some (k, j)) : Cid)) (Finset.mem_univ _)

/-- A barrier cell that has run its round closes at zero. -/
theorem close_bar (K : GSem nD τ sig → ℕ) (c : Dev nD) :
    iprop(invs ch rb K ∗ atPos ER (barCell c) (0 + 1) ∅ 0) ⊢ (|={Set.univ}=> semVal (barCell c) 0 : sProp 𝕄) :=
  (sep_mono_left (invs_bar ch rb K c)).trans
    (Rounds.cell_close ER (rd ch rb) (Set.mem_univ _) id (duties_later ch rb _))
/-- So does a transfer cell. -/
theorem close_x (K : GSem nD τ sig → ℕ) (k : Fin 4) (c j : Dev nD) :
    iprop(invs ch rb K ∗ atPos ER (xCell k c j) (0 + 1) ∅ 0) ⊢ (|={Set.univ}=> semVal (xCell k c j) 0 : sProp 𝕄) :=
  (sep_mono_left (invs_x ch rb K k c j)).trans
    (Rounds.cell_close ER (rd ch rb) (Set.mem_univ _) id (duties_later ch rb _))
/-- The unused cell at a device's own number closes as it was opened. -/
theorem close_self (K : GSem nD τ sig → ℕ) (k : Fin 4) (c : Dev nD) :
    iprop(invs ch rb K ∗ atPos ER (xCell k c c) 0 ∅ 0) ⊢ (|={Set.univ}=> semVal (xCell k c c) 0 : sProp 𝕄) :=
  (sep_mono_left (invs_x ch rb K k c c)).trans
    (Rounds.cell_close ER (rd ch rb) (Set.mem_univ _) id (duties_never ch rb k c))

end Invs

end Cert.Proof

end
-- ==== Proof.Ops.lean ====
/-
# The kernel's memory operations, one rule each

Rules for the effects the kernel performs, stated over what a device owns: loads and stores through a memref or a slice
of it, a signal to a peer, a transfer to a peer, a wait. Each rule reads: from these resources, and whatever else `R`,
the operation followed by `f` is safe if `f` is safe from the resources that result.
-/
module

public import proofs.«01_k».proof.Proof.Protocol

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- `p` runs safely on device `c`, ending in `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What `c` owes, at some record of its waits. -/
def debt (c : Dev nD) (O : CellTallies nD τ sig Unit) : sProp 𝕄 := iprop(∃ W, owes (c : Thread nD τ) O W)

/-! ## Program structure -/

section Structure

variable {α β : Type} {c : Dev nD}

/-- A conditional whose branches both go on to `k`: it is enough that each reaches `B`, and `k` is safe from `B`. -/
theorem branch {q : Prop} [Decidable q] {p : q → Prog (TpuEff nD τ sig (Elt F) Λ₀ .tc) α}
    {k : Prog (TpuEff nD τ sig (Elt F) Λ₀ .tc) α} {A B : sProp 𝕄} {Q : α → sProp 𝕄}
    (h1 : (B ⊢ Runs c k Q) → ∀ h : q, A ⊢ Runs c (p h) Q) (h2 : ¬ q → A ⊢ B) (hk : B ⊢ Runs c k Q) :
    A ⊢ Runs c (dite q p (fun _ => k)) Q := by
  by_cases h : q
  · rw [dif_pos h]; exact h1 hk h
  · rw [dif_neg h]; exact (h2 h).trans hk

/-- An effect followed by the rest is the operation over it. -/
theorem lift_bind (op : TpuEff nD τ sig (Elt F) Λ₀ .tc β) (f : β → Prog (TpuEff nD τ sig (Elt F) Λ₀ .tc) α) :
    (Prog.lift op >>= f) = Prog.op op f := rfl

/-- A part followed by the rest. -/
theorem part_then {p : Prog (TpuEff nD τ sig (Elt F) Λ₀ .tc) β} {k : β → Prog (TpuEff nD τ sig (Elt F) Λ₀ .tc) α}
    {A B : sProp 𝕄} {Q : α → sProp 𝕄} (v : β) (hp : A ⊢ Runs c p (fun r => iprop(⌜r = v⌝ ∗ B))) (hk : B ⊢ Runs c (k v) Q) :
    A ⊢ Runs c (p >>= k) Q := by
  show A ⊢ wp _ _ _ _ _
  rw [wp_bind]
  refine hp.trans (wp_mono _ _ _ fun r => ?_)
  iintro ⟨%e, H⟩
  subst e
  iapply hk; iexact H

/-- A part's end. -/
theorem part_done {A : sProp 𝕄} {v : β} {Q : β → sProp 𝕄} (h : A ⊢ Q v) : A ⊢ Runs c (Pure.pure v) Q :=
  BI.Entails.trans h (le_wp_ret _ _ _ v Q)

/-- The end of a part that hands on the value `v` and keeps what it holds. -/
theorem part_ret {A B : sProp 𝕄} {v : β} (h : A ⊢ B) :
    A ⊢ Runs c (Pure.pure v : Prog (TpuEff nD τ sig (Elt F) Λ₀ .tc) β) (fun r => iprop(⌜r = v⌝ ∗ B)) := by
  refine part_done ?_
  iintro H; isplitr
  · ipureintro; rfl
  · iapply h; iexact H

end Structure

/-! ## Loads and stores -/

section Memory

variable {α : Type} {c : Dev nD} {s : Shape} {e : EltTy}

/-- A load at a slice, of the slice owned. -/
theorem load_slice {m : Memref sig .tc .vmem s e} {r : Rect s} {hr : ∀ a, r.stride a = 1} {q : PosShare TreeShare}
    {X : r.shape.Idx → Elt F e} {hl : m.view.LoadsAt r.toLoadRect}
    {f : (r.shape.Idx → Elt F e) → Prog (TpuEff nD τ sig (Elt F) Λ₀ .tc) α} {Q : α → sProp 𝕄} {R : sProp 𝕄}
    (hk : iprop(owns (c : Thread nD τ) (m.slice r hr) q X ∗ R) ⊢ Runs c (f X) Q) :
    iprop(owns (c : Thread nD τ) (m.slice r hr) q X ∗ R) ⊢ Runs c (Prog.lift (.load m r.toLoadRect hl) >>= f) Q := by
  rw [lift_bind]
  have hS : (m.access r).set ⊆ (m.slice r hr).view.set := Finset.Subset.refl _
  unfold owns at hk ⊢
  iintro ⟨⟨%g, %hg, H⟩, HR⟩
  iapply (wp_load_rect (defs := defs₀ (F := F)) 𝒱₀ (c : Thread nD τ) none Set.univ (q := q) (f := g) hS) $$ [H]
  · iexact H
  iintro H
  have e : (m.access r).read (Elt F) g = X := hg
  rw [e]
  iapply hk
  isplitl [H]
  · iexists g; isplitr
    · ipureintro; exact hg
    · iexact H
  · iexact HR

/-- A load at a rectangle of a memref owned. -/
theorem load_part {m : Memref sig .tc .vmem s e} {r : Rect s} {q : PosShare TreeShare}
    {X : s.Idx → Elt F e} {hl : m.view.LoadsAt r.toLoadRect}
    {f : (r.shape.Idx → Elt F e) → Prog (TpuEff nD τ sig (Elt F) Λ₀ .tc) α} {Q : α → sProp 𝕄} {R : sProp 𝕄}
    (hk : iprop(owns (c : Thread nD τ) m q X ∗ R) ⊢ Runs c (f fun i => X (r.emb i)) Q) :
    iprop(owns (c : Thread nD τ) m q X ∗ R) ⊢ Runs c (Prog.lift (.load m r.toLoadRect hl) >>= f) Q := by
  rw [lift_bind]
  have hS : (m.access r).set ⊆ m.view.set := View.set_slice_subset _ _
  unfold owns at hk ⊢
  iintro ⟨⟨%g, %hg, H⟩, HR⟩
  subst hg
  iapply (wp_load_rect (defs := defs₀ (F := F)) 𝒱₀ (c : Thread nD τ) none Set.univ (q := q) (f := g) hS) $$ [H]
  · iexact H
  iintro H
  iapply hk
  isplitl [H]
  · iexists g; isplitr
    · ipureintro; rfl
    · iexact H
  · iexact HR

/-- A store over a whole slice, of the slice owned. -/
theorem store_slice {m : Memref sig .tc .vmem s e} {r : Rect s} {hr : ∀ a, r.stride a = 1}
    {X : r.shape.Idx → Elt F e} {w : r.shape.Idx → Elt F e} {hx : (m.access r).Stores Finset.univ}
    {hm : (Finset.univ : Finset r.shape.Idx) = Finset.univ ∨ ∀ a, r.stride a = 1}
    {f : PUnit → Prog (TpuEff nD τ sig (Elt F) Λ₀ .tc) α} {Q : α → sProp 𝕄} {R : sProp 𝕄}
    (hk : iprop(owns (c : Thread nD τ) (m.slice r hr) fullShare w ∗ R) ⊢ Runs c (f ⟨⟩) Q) :
    iprop(owns (c : Thread nD τ) (m.slice r hr) fullShare X ∗ R) ⊢ Runs c (Prog.lift (.store m r w Finset.univ hx hm) >>= f) Q := by
  rw [lift_bind]
  have hS : (m.access r).setOn Finset.univ ⊆ (m.slice r hr).view.set := Finset.Subset.refl _
  unfold owns at hk ⊢
  iintro ⟨⟨%g, %hg, H⟩, HR⟩
  iapply (wp_store (defs := defs₀ (F := F)) 𝒱₀ (c : Thread nD τ) none Set.univ (f := g) hS) $$ [H]
  · iexact H
  iintro H
  iapply hk
  isplitl [H]
  · iexists _; isplitr
    · ipureintro; exact (m.access r).read_write_univ (Val := Elt F) g w
    · iexact H
  · iexact HR

end Memory

/-! ## Slots -/

/-- A 64×512 block seen as the 1×64×512 contents of a slot. -/
abbrev up (X : Blk F) : S1x64x512.Idx → Elt F .bf16 := shapeCast S1x64x512 X (by decide)

/-- Owning a slot as a 64×512 block is owning it as a 1×64×512 one. -/
theorem slot_up (c : Dev nD) (b : Memref sig .tc .vmem S8x64x512 .bf16) (j : Dev nD) (q : PosShare TreeShare) (X : Blk F) :
    (owns (c : Thread nD τ) ((b.slice (slotR j) (fun _ => rfl)).squeeze S64x512 squeezes_S1x64x512_S64x512) q X : sProp 𝕄)
      = owns (c : Thread nD τ) (b.slice (slotR j) (fun _ => rfl)) q (up X) := by
  have hs : ((b.slice (slotR j) (fun _ => rfl)).squeeze S64x512 squeezes_S1x64x512_S64x512).view.set
      = (b.slice (slotR j) (fun _ => rfl)).view.set := View.set_reshape _ _
  have hr : ∀ g : (b.slice (slotR j) (fun _ => rfl)).view.ty.Contents (Elt F),
      ((b.slice (slotR j) (fun _ => rfl)).squeeze S64x512 squeezes_S1x64x512_S64x512).view.read (Elt F) g = X
        ↔ (b.slice (slotR j) (fun _ => rfl)).view.read (Elt F) g = up X := by
    intro g
    have h1 : ∀ i : S64x512.Idx, ((b.slice (slotR j) (fun _ => rfl)).squeeze S64x512 squeezes_S1x64x512_S64x512).view.read (Elt F) g i
        = (b.slice (slotR j) (fun _ => rfl)).view.read (Elt F) g (Shape.reshapeEquiv squeezes_S1x64x512_S64x512.numel_eq i) := fun _ => rfl
    constructor
    · intro h
      subst h
      funext i
      show _ = _
      unfold up
      rw [shapeCast]
      rw [h1, Shape.reshapeEquiv_reshapeEquiv, Shape.reshapeEquiv_self]
    · intro h
      funext i
      rw [h1, h]
      show X _ = X _
      rw [Shape.reshapeEquiv_reshapeEquiv, Shape.reshapeEquiv_self]
  unfold owns
  have h1 : ∀ g : (b.slice (slotR j) (fun _ => rfl)).view.ty.Contents (Elt F), (iprop(⌜((b.slice (slotR j) (fun _ => rfl)).squeeze S64x512 squeezes_S1x64x512_S64x512).view.read (Elt F) g = X⌝
        ∗ ((b.slice (slotR j) (fun _ => rfl)).view.loc (c : Thread nD τ) ↦[(b.slice (slotR j) (fun _ => rfl)).view.set]{q} g)) : sProp 𝕄)
      = iprop(⌜(b.slice (slotR j) (fun _ => rfl)).view.read (Elt F) g = up X⌝
        ∗ ((b.slice (slotR j) (fun _ => rfl)).view.loc (c : Thread nD τ) ↦[(b.slice (slotR j) (fun _ => rfl)).view.set]{q} g)) := by
    intro g; rw [propext (hr g)]
  rw [hs]
  exact congrArg _ (funext h1)

/-! ## The pieces as the kernel writes them -/

theorem slot_at (b : Memref sig .tc .vmem S8x64x512 .bf16) {o : Fin 3 → ℕ} {inb} {h} (j : Dev nD) (e : o = ![j.val, 0, 0]) :
    ((b.slice (Rect.unit (s := S8x64x512) o S1x64x512.size inb) h).squeeze S64x512 squeezes_S1x64x512_S64x512)
      = (b.slice (slotR j) (fun _ => rfl)).squeeze S64x512 squeezes_S1x64x512_S64x512 := by
  subst e; rfl

theorem rows_at {e : EltTy} (b : Memref sig .tc .vmem S512x512 e) {o : Fin 2 → ℕ} {inb} {h} (j : Dev nD) (ho : o = ![64 * j.val, 0]) :
    b.slice (Rect.unit (s := S512x512) o S64x512.size inb) h = b.slice (rowR j) (fun _ => rfl) := by
  subst ho; rfl

/-- The four arrays of transfer semaphores. -/
def semArr (k : Fin 4) : DmaSems sig S8 := match k with
  | 0 => cc0_scratch5
  | 1 => cc0_scratch6
  | 2 => cc0_scratch7
  | 3 => cc0_scratch8

theorem sem_at_all : ∀ (k : Fin 4) (j : Fin 8), ∀ inb : (∀ a, (![j.val] : Fin 1 → ℕ) a + S1.size a ≤ S8.size a),
    (((semArr k).slice (Rect.unit (s := S8) ![j.val] S1.size inb)).squeeze S_ squeezes_S1_S_).sem = xs k j := by
  decide +kernel

theorem sem_at (k : Fin 4) {o : Fin 1 → ℕ} {inb} (j : Dev nD) (e : o = ![j.val]) :
    (((semArr k).slice (Rect.unit (s := S8) o S1.size inb)).squeeze S_ squeezes_S1_S_).sem = xs k j := by
  subst e
  exact sem_at_all k j inb

/-! ## Passing over the eight devices in order -/

/-- Of the devices of `S`, those from `n` on at `Φ`, the ones before at `Ψ`. -/
def sweep (S : Finset (Dev nD)) (Φ Ψ : Dev nD → sProp 𝕄) (n : ℕ) : sProp 𝕄 :=
  bigSep S fun j => if n ≤ j.val then Φ j else Ψ j

theorem sweep_take {S : Finset (Dev nD)} {Φ Ψ : Dev nD → sProp 𝕄} {n : ℕ} {j : Dev nD} (hj : j ∈ S) (hn : j.val = n) :
    sweep S Φ Ψ n ⊢ iprop(Φ j ∗ (Ψ j -∗ sweep S Φ Ψ (n + 1))) := by
  subst hn
  unfold sweep
  rw [bigSep_erase hj, bigSep_erase (s := S) hj, if_pos le_rfl, if_neg (by omega),
    bigSep_congr (s := S.erase j) (Ψ := fun i => if j.val + 1 ≤ i.val then Φ i else Ψ i) (fun i hi => by
      have : i.val ≠ j.val := fun h => (Finset.mem_erase.mp hi).1 (Fin.ext h)
      by_cases h : j.val + 1 ≤ i.val
      · rw [if_pos h, if_pos (by omega)]
      · rw [if_neg h, if_neg (by omega)])]
  show iprop(Φ j ∗ bigSep (S.erase j) _) ⊢ iprop(Φ j ∗ (Ψ j -∗ (Ψ j ∗ bigSep (S.erase j) _)))
  iintro ⟨H, HR⟩
  isplitl [H]
  · iexact H
  · iintro HP
    isplitl [HP]
    · iexact HP
    · iexact HR

theorem sweep_first {S : Finset (Dev nD)} {Φ Ψ : Dev nD → sProp 𝕄} {n : ℕ} (h : ∀ j ∈ S, n ≤ j.val) :
    sweep S Φ Ψ n = bigSep S Φ := bigSep_congr fun j hj => if_pos (h j hj)
theorem sweep_last {S : Finset (Dev nD)} {Φ Ψ : Dev nD → sProp 𝕄} {n : ℕ} (h : ∀ j ∈ S, ¬ n ≤ j.val) :
    sweep S Φ Ψ n = bigSep S Ψ := bigSep_congr fun j hj => if_neg (h j hj)

/-- The peers of `c` from `n` on. -/
def todo (c : Dev nD) (n : ℕ) : Finset (Dev nD) := (peers c).filter fun t => n ≤ t.val

theorem todo_zero (c : Dev nD) : todo c 0 = peers c := Finset.filter_true_of_mem fun _ _ => Nat.zero_le _
theorem todo_eight (c : Dev nD) : todo c 8 = ∅ := by revert c; decide
theorem todo_skip {c j : Dev nD} {n : ℕ} (hn : j.val = n) (h : j = c) : todo c n = todo c (n + 1) := by
  subst hn; subst h; revert j; decide
theorem todo_mem {c j : Dev nD} {n : ℕ} (hn : j.val = n) (h : j ≠ c) : j ∈ todo c n := by
  subst hn; exact Finset.mem_filter.mpr ⟨Finset.mem_erase.mpr ⟨h, Finset.mem_univ _⟩, le_rfl⟩
theorem todo_erase {c j : Dev nD} {n : ℕ} (hn : j.val = n) : (todo c n).erase j = todo c (n + 1) := by
  subst hn; revert c j; decide

end Cert.Proof

end
-- ==== Proof.Sync.lean ====
/-
# Signals, transfers and waits

The rules for the effects between devices, and each as a step of a pass over the eight devices: a device sends to its
peers in order, and waits for them in order, leaving itself out.
-/
module

public import proofs.«01_k».proof.Proof.Ops

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Sync

variable (ch : Dev nD → Dev nD → Blk F) (rb : Dev nD → Blk F) (K : GSem nD τ sig → ℕ)
variable {α : Type} {c : Dev nD} {f : PUnit → Prog (TpuEff nD τ sig (Elt F) Λ₀ .tc) α}

/-! ## The three effects -/

/-- A signal to peer `t`: its duty at `t`'s barrier cell is done, with what that duty hands over. -/
theorem signal_op {t d : Dev nD} (hd : d = t) (ht : t ≠ c) (O : CellTallies nD τ sig Unit)
    {Q : α → sProp 𝕄} {R : sProp 𝕄} (hk : iprop(debt c O ∗ R) ⊢ Runs c (f ⟨⟩) Q) :
    iprop(invs ch rb K ∗ dutyTok ER (barCell t) 0 c ∗ barPay (F := F) t c ∗ reached ER (barCell t) 0
        ∗ debt c (O + tallyAt (barCell t) () 1) ∗ R)
      ⊢ Runs c (semSignalWord d barS 1#32 >>= f) Q := by
  subst hd
  show _ ⊢ Runs c (.op (.semSignal (d : Thread nD τ) barS 1) f) Q
  unfold debt at hk ⊢
  iintro ⟨#HI, Ht, Hp, #Hr, ⟨%W, HO⟩, HR⟩
  ihave #Hc := (invs_bar ch rb K d) $$ HI
  iapply (Rounds.wp_signal (defs := defs₀ (F := F)) 𝒱₀ ER (rd ch rb) (c : Thread nD τ) none (dst := (d : Thread nD τ)) (κ := K (barCell d))
      (d := c) (by rw [duties_bar]; exact Finset.mem_erase.mpr ⟨ht.symm, Finset.mem_univ _⟩) (amount_bar ch rb d c) () O rfl) $$ [HO Ht Hp]
  · isplitr; · iexact Hc
    isplitl [HO]; · iexact HO
    isplitl [Ht]; · iexact Ht
    isplitl [Hp]; · rw [payload_bar]; iexact Hp
    iexact Hr
  iintro HO
  iapply hk
  isplitl [HO]
  · iexists W; iexact HO
  · iexact HR

/-- The wait for all seven peers' signals: what they handed over. -/
theorem barrier_op (O : CellTallies nD τ sig Unit)
    (hmay : (levAts L lv : sProp 𝕄) ⊢ MayWait (c : Thread nD τ) (.reg barS) () O)
    {Q : α → sProp 𝕄} {R : sProp 𝕄} (hk : iprop(debt c O ∗ atPos ER (barCell c) (0 + 1) ∅ 0 ∗ bigSep (peers c) (fun e => barPay (F := F) c e) ∗ R) ⊢ Runs c (f ⟨⟩) Q) :
    iprop(invs ch rb K ∗ levAts L lv ∗ cred (tallyAt (barCell c) () 7) ∗ atPos ER (barCell c) 0 ∅ 0 ∗ debt c O ∗ R)
      ⊢ Runs c (semWaitWord barS 7#32 >>= f) Q := by
  show _ ⊢ Runs c (.op (.semWait barS 7) f) Q
  unfold debt at hk ⊢
  iintro ⟨#HI, #Hlev, Hc, Hat, ⟨%W, HO⟩, HR⟩
  ihave #Hcell := (invs_bar ch rb K c) $$ HI
  iapply (Rounds.wp_wait_rest_token (defs := defs₀ (F := F)) 𝒱₀ ER (rd ch rb) (c : Thread nD τ) none (κ := K (barCell c))
      (wpE_semWait_eq 𝒱₀ (c : Thread nD τ) none Set.univ) (Set.mem_univ _) () (O := O) (W := W) (R := 0) (m := 0) (T := ∅)
      (by rw [expect_bar])) $$ [Hc HO Hat]
  · isplitr; · iexact Hcell
    isplitl [Hc]; · iexact Hc
    isplitl [HO]; · iexact HO
    isplitr; · iapply hmay; iexact Hlev
    iexact Hat
  iintro ⟨HO, Hat, -, Hpay⟩
  ihave Hp := (Entails.of_eq (rest_bar ch rb c)) $$ Hpay
  iapply hk
  isplitl [HO]
  · iexists _; iexact HO
  isplitl [Hat]; · iexact Hat
  isplitl [Hp]; · iexact Hp
  iexact HR

/-- A transfer to peer `t`, on rows `k` here and `k'` there: the source is lent, the landing slot given. -/
theorem send_op {t d : Dev nD} (hd : d = t) (ht : t ≠ c) {k k' : Fin 4} {src dst src' dst' : Memref sig .tc .vmem S64x512 .bf16}
    {q : PosShare TreeShare} {V : Blk F} (hsrc : xPay ch rb k c t = owns (c : Thread nD τ) src q V)
    (hdst : xPay ch rb k' t c = owns (t : Thread nD τ) dst fullShare V) (hN : dst.view.dmaCredit = N)
    (es : src' = src) (ed : dst' = dst) {s1 s2 : DmaSem sig} (e1 : s1 = xs k t) (e2 : s2 = xs k' c)
    {hsc : (dst' : Memref sig (Dev.tc d : Thread nD τ).2.kind .vmem S64x512 .bf16).view.ref.isScScratch = false}
    {hw1 : src'.view.WordExact} {hw2 : dst'.view.WordExact}
    {hsem : DmaTarget.Typed .vmem (.dma s2) (.remote (Dev.tc d : Thread nD τ) (dst' : Memref sig (Dev.tc d : Thread nD τ).2.kind .vmem S64x512 .bf16) (.dma s1) hsc)}
    (O : CellTallies nD τ sig Unit)
    {Q : α → sProp 𝕄} {R : sProp 𝕄} (hk : iprop(cred (tallyAt (xCell k c t) () N) ∗ debt c O ∗ R) ⊢ Runs c (f ⟨⟩) Q) :
    iprop(invs ch rb K ∗ xPay ch rb k c t ∗ (∃ X, owns (t : Thread nD τ) dst fullShare X)
        ∗ (dutyTok ER (xCell k c t) 0 t ∗ reached ER (xCell k c t) 0) ∗ (dutyTok ER (xCell k' t c) 0 c ∗ reached ER (xCell k' t c) 0)
        ∗ debt c (O + tallyAt (xCell k' t c) () N) ∗ R)
      ⊢ Runs c (Prog.lift (.enqueueDma src' (.remote (Dev.tc d : Thread nD τ) dst' (.dma s1) hsc) (.dma s2) hw1 hw2 hsem) >>= f) Q := by
  subst hd es ed e1 e2
  show _ ⊢ Runs c (.op (.enqueueDma src' (.remote (Dev.tc d : Thread nD τ) dst' (.dma (xs k d)) hsc) (.dma (xs k' c)) hw1 hw2 hsem) f) Q
  rw [hsrc]
  unfold debt at hk ⊢
  unfold owns at hsrc hdst
  unfold owns
  iintro ⟨#HI, ⟨%fs, %hfs, Hs⟩, ⟨%X, %fd, %hfd, Hd⟩, ⟨Ht1, Hr1⟩, ⟨Ht2, Hr2⟩, ⟨%W, HO⟩, HR⟩
  ihave #Hc1 := (invs_x ch rb K k c d) $$ HI
  ihave #Hc2 := (invs_x ch rb K k' d c) $$ HI
  iapply (Rounds.wp_send_pointsTo (defs := defs₀ (F := F)) 𝒱₀ ER (rd ch rb) (c : Thread nD τ) none (c' := (d : Thread nD τ))
      (src := src') (dst := dst') (sS := .dma (xs k d)) (sem := .dma (xs k' c)) (q := q) (fs := fs) (fd := fd)
      (κ₁ := K (xCell k c d)) (κ₂ := K (xCell k' d c)) (r₁ := 0) (r₂ := 0) (d₁ := d) (d₂ := c)
      (by rw [duties_x ch rb k ht]; exact Finset.mem_singleton_self _)
      (by rw [duties_x ch rb k' ht.symm]; exact Finset.mem_singleton_self _)
      () () N hN (amount_x ch rb k c d d) (amount_x ch rb k' d c c) O rfl (W := W)
      (by
        rw [payload_x, hsrc]
        iintro H; iexists fs; isplitr
        · ipureintro; exact hfs
        · iexact H)
      (by
        rw [payload_x, hdst]
        iintro H; iexists _; isplitr
        · ipureintro; exact (dst'.view.read_write_univ (Val := Elt F) fd _).trans hfs
        · iexact H)) $$ [Hs Hd HO Ht1 Hr1 Ht2 Hr2]
  · isplitr; · iexact Hc1
    isplitr; · iexact Hc2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply hk
  isplitl [Hc]; · iexact Hc
  isplitl [HO]
  · iexists W; iexact HO
  · iexact HR

/-- The wait on a transfer cell: what the transfer paid into it. -/
theorem wait_op {j : Dev nD} (hj : j ≠ c) {k : Fin 4} {sm : DmaSem sig} (es : sm = xs k j)
    {src dst : Memref sig .tc .vmem S64x512 .bf16} {hw1 : src.view.WordExact} {hw2 : dst.view.WordExact} (hN : dst.view.dmaCredit = N)
    (O : CellTallies nD τ sig Unit)
    (hmay : (levAts L lv : sProp 𝕄) ⊢ MayWait (c : Thread nD τ) (.dma (xs k j)) () O)
    {Q : α → sProp 𝕄} {R : sProp 𝕄} (hk : iprop(atPos ER (xCell k c j) (0 + 1) ∅ 0 ∗ xPay ch rb k c j ∗ debt c O ∗ R) ⊢ Runs c (f ⟨⟩) Q) :
    iprop(invs ch rb K ∗ levAts L lv ∗ atPos ER (xCell k c j) 0 ∅ 0 ∗ cred (tallyAt (xCell k c j) () N) ∗ debt c O ∗ R)
      ⊢ Runs c (Prog.lift (.waitDma2 sm src dst hw1 hw2) >>= f) Q := by
  subst es
  show _ ⊢ Runs c (.op (.waitDma2 (xs k j) src dst hw1 hw2) f) Q
  unfold debt at hk ⊢
  iintro ⟨#HI, #Hlev, Hat, Hc, ⟨%W, HO⟩, HR⟩
  ihave #Hcell := (invs_x ch rb K k c j) $$ HI
  rw [← hN]
  iapply (Rounds.wp_wait_rest_token (defs := defs₀ (F := F)) 𝒱₀ ER (rd ch rb) (c : Thread nD τ) none (κ := K (xCell k c j))
      (wpE_waitDma2_eq 𝒱₀ (c : Thread nD τ) none Set.univ) (Set.mem_univ _) () (O := O) (W := W) (R := 0) (m := 0) (T := ∅)
      (by rw [Nat.zero_add, expect_x ch rb k hj, hN])) $$ [Hc HO Hat]
  · isplitr; · iexact Hcell
    isplitl [Hc]; · iexact Hc
    isplitl [HO]; · iexact HO
    isplitr; · iapply hmay; iexact Hlev
    iexact Hat
  iintro ⟨HO, Hat, -, Hpay⟩
  ihave Hp := (Entails.of_eq (rest_x ch rb k hj)) $$ Hpay
  iapply hk
  isplitl [Hat]; · iexact Hat
  isplitl [Hp]; · iexact Hp
  isplitl [HO]
  · iexists _; iexact HO
  · iexact HR

end Sync

end Cert.Proof

end
-- ==== Proof.Blocks.lean ====
/-
# Passes of transfers and waits

One step of each pass the kernel makes over the eight devices: a send, a wait, a wait followed by adding the landed
chunk to the running sum, and a wait followed by writing the landed sum to the output. Each step either takes place, for
a peer, or is left out, at the device's own number.
-/
module

public import proofs.«01_k».proof.Proof.Sync

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Loads and stores of whole buffers -/

theorem unit_emb {s : Shape} {o : Fin s.rank → ℕ} (h : o = fun _ => 0) (inb : ∀ a, o a + s.size a ≤ s.size a) (i : s.Idx) :
    (Rect.unit (s := s) o s.size inb).emb i = i := by
  subst h
  refine funext fun a => Fin.ext ?_
  show 0 + 1 * (i a).val = (i a).val
  omega

theorem zero2 : (![0, 0] : Fin 2 → ℕ) = fun _ => 0 := by decide

section Whole

variable {α : Type} {c : Dev nD} {s : Shape} {e : EltTy}

theorem load_whole {m : Memref sig .tc .vmem s e} {o : Fin s.rank → ℕ} {inb : ∀ a, o a + s.size a ≤ s.size a} (h : o = fun _ => 0)
    {q : PosShare TreeShare} {X : s.Idx → Elt F e} {hl : m.view.LoadsAt (Rect.unit (s := s) o s.size inb).toLoadRect}
    {f : (s.Idx → Elt F e) → Prog (TpuEff nD τ sig (Elt F) Λ₀ .tc) α} {Q : α → sProp 𝕄} {R : sProp 𝕄}
    (hk : iprop(owns (c : Thread nD τ) m q X ∗ R) ⊢ Runs c (f X) Q) :
    iprop(owns (c : Thread nD τ) m q X ∗ R)
      ⊢ Runs c (Prog.lift (.load m (Rect.unit (s := s) o s.size inb).toLoadRect hl) >>= f) Q :=
  load_part (r := Rect.unit (s := s) o s.size inb) (by
    have e : (fun i => X ((Rect.unit (s := s) o s.size inb).emb i)) = X := funext fun i => congrArg X (unit_emb h inb i)
    rw [e]; exact hk)

theorem store_whole {m : Memref sig .tc .vmem s e} {o : Fin s.rank → ℕ} {inb : ∀ a, o a + s.size a ≤ s.size a} (h : o = fun _ => 0)
    {X w : s.Idx → Elt F e} {hx : (m.access (Rect.unit (s := s) o s.size inb)).Stores Finset.univ}
    {hm : (Finset.univ : Finset s.Idx) = Finset.univ ∨ ∀ a, (Rect.unit (s := s) o s.size inb).stride a = 1}
    {f : PUnit → Prog (TpuEff nD τ sig (Elt F) Λ₀ .tc) α} {Q : α → sProp 𝕄} {R : sProp 𝕄}
    (hk : iprop(owns (c : Thread nD τ) m fullShare w ∗ R) ⊢ Runs c (f ⟨⟩) Q) :
    iprop(owns (c : Thread nD τ) m fullShare X ∗ R)
      ⊢ Runs c (Prog.lift (.store m (Rect.unit (s := s) o s.size inb) w Finset.univ hx hm) >>= f) Q := by
  rw [lift_bind]
  have hS : (m.access (Rect.unit (s := s) o s.size inb)).setOn Finset.univ ⊆ m.view.set := View.set_slice_subset _ _
  unfold owns at hk ⊢
  iintro ⟨⟨%g, %hg, H⟩, HR⟩
  iapply (wp_store (defs := defs₀ (F := F)) 𝒱₀ (c : Thread nD τ) none Set.univ (f := g) hS) $$ [H]
  · iexact H
  iintro H
  iapply hk
  isplitl [H]
  · iexists _; isplitr
    · ipureintro
      funext i
      have := m.view.read_slice_write_emb (Val := Elt F) (Rect.unit (s := s) o s.size inb) g w (x := i) (Finset.mem_univ _)
      rw [unit_emb h inb i] at this
      exact this
    · iexact H
  · iexact HR

end Whole

/-! ## The passes -/

section Passes

variable (ch : Dev nD → Dev nD → Blk F) (rb : Dev nD → Blk F) (K : GSem nD τ sig → ℕ)

/-- What every step may use: the cells' invariants and levels. -/
def ctx : sProp 𝕄 := iprop(invs ch rb K ∗ levAts L lv)
instance ctx_persistent : BI.Persistent (ctx ch rb K) := by unfold ctx; infer_instance

/-- Before the send to `j`: the source, `j`'s landing slot and the two duties; at `c` itself, the source. -/
def sendPre (k k' : Fin 4) (M : Memref sig .tc .vmem S64x512 .bf16) (c j : Dev nD) : sProp 𝕄 :=
  if j = c then xPay ch rb k c c
  else iprop(xPay ch rb k c j ∗ (∃ X, owns (j : Thread nD τ) M fullShare X)
    ∗ (dutyTok ER (xCell k c j) 0 j ∗ reached ER (xCell k c j) 0) ∗ (dutyTok ER (xCell k' j c) 0 c ∗ reached ER (xCell k' j c) 0))
/-- After it: the credit to wait for the source's return. -/
def sendPost (k : Fin 4) (c j : Dev nD) : sProp 𝕄 :=
  if j = c then xPay ch rb k c c else cred (tallyAt (xCell k c j) () N)

/-- Before the wait on row `k` at `j`; `Z` is held at `c` itself. -/
def waitPre (k : Fin 4) (c : Dev nD) (Z : sProp 𝕄) (j : Dev nD) : sProp 𝕄 :=
  iprop(atPos ER (xCell k c j) 0 ∅ 0 ∗ (if j = c then Z else cred (tallyAt (xCell k c j) () N)))
/-- After it: what was paid into the cell. -/
def waitPost (k : Fin 4) (c : Dev nD) (Z : sProp 𝕄) (j : Dev nD) : sProp 𝕄 :=
  iprop(atPos ER (xCell k c j) (if j = c then 0 else 0 + 1) ∅ 0 ∗ (if j = c then Z else xPay ch rb k c j))

/-- The state of a pass of sends that has reached device `n`. -/
def sending (k k' : Fin 4) (M : Memref sig .tc .vmem S64x512 .bf16) (c : Dev nD) (S : Finset (Dev nD))
    (O : CellTallies nD τ sig Unit) (n : ℕ) : sProp 𝕄 :=
  iprop(sweep S (sendPre ch rb k k' M c) (sendPost ch rb k c) n ∗ debt c (O + owe (fun t => xCell k' t c) N (todo c n)))
/-- The state of a pass of waits that has reached device `n`. -/
def waiting (k : Fin 4) (c : Dev nD) (Z : sProp 𝕄) (O : CellTallies nD τ sig Unit) (n : ℕ) : sProp 𝕄 :=
  iprop(sweep Finset.univ (waitPre k c Z) (waitPost ch rb k c Z) n ∗ debt c O)

variable {α : Type} {c : Dev nD} {f : PUnit → Prog (TpuEff nD τ sig (Elt F) Λ₀ .tc) α}

/-- Passing a device where both states of the sweep agree. -/
theorem sweep_skip {S : Finset (Dev nD)} {Φ Ψ : Dev nD → sProp 𝕄} {n : ℕ} {j : Dev nD} (hn : j.val = n) (h : Φ j ⊢ Ψ j) :
    sweep S Φ Ψ n ⊢ sweep S Φ Ψ (n + 1) := by
  by_cases hj : j ∈ S
  · refine (sweep_take hj hn).trans ?_
    iintro ⟨H, HW⟩
    iapply HW; iapply h; iexact H
  · refine Entails.of_eq (bigSep_congr fun i hi => ?_)
    have : i.val ≠ j.val := fun h => hj (Fin.ext h ▸ hi)
    by_cases h' : n + 1 ≤ i.val
    · rw [if_pos h', if_pos (by omega)]
    · rw [if_neg h', if_neg (by omega)]

theorem send_skip {k k' : Fin 4} {M : Memref sig .tc .vmem S64x512 .bf16} {S : Finset (Dev nD)} {O : CellTallies nD τ sig Unit}
    {n : ℕ} {j : Dev nD} (hn : j.val = n) (h : j = c) {R : sProp 𝕄} :
    iprop(ctx ch rb K ∗ sending ch rb k k' M c S O n ∗ R) ⊢ iprop(ctx ch rb K ∗ sending ch rb k k' M c S O (n + 1) ∗ R) := by
  refine sep_mono .rfl (sep_mono ?_ .rfl)
  unfold sending
  rw [todo_skip hn h]
  refine sep_mono (sweep_skip hn ?_) .rfl
  unfold sendPre sendPost
  rw [if_pos h, if_pos h]

theorem send_taken {k k' : Fin 4} {M : Memref sig .tc .vmem S64x512 .bf16} {S : Finset (Dev nD)} {O : CellTallies nD τ sig Unit}
    {n : ℕ} {j d : Dev nD} (hn : j.val = n) (hS : j ∈ S) (hj : j ≠ c) (hd : d = j) {src src' dst' : Memref sig .tc .vmem S64x512 .bf16}
    {q : PosShare TreeShare} {V : Blk F} (hsrc : xPay ch rb k c j = owns (c : Thread nD τ) src q V)
    (hdst : xPay ch rb k' j c = owns (j : Thread nD τ) M fullShare V) (hN : M.view.dmaCredit = N)
    (es : src' = src) (ed : dst' = M) {s1 s2 : DmaSem sig} (e1 : s1 = xs k j) (e2 : s2 = xs k' c)
    {hsc : (dst' : Memref sig (Dev.tc d : Thread nD τ).2.kind .vmem S64x512 .bf16).view.ref.isScScratch = false}
    {hw1 : src'.view.WordExact} {hw2 : dst'.view.WordExact}
    {hsem : DmaTarget.Typed .vmem (.dma s2) (.remote (Dev.tc d : Thread nD τ) (dst' : Memref sig (Dev.tc d : Thread nD τ).2.kind .vmem S64x512 .bf16) (.dma s1) hsc)}
    {Q : α → sProp 𝕄} {R : sProp 𝕄}
    (hk : iprop(ctx ch rb K ∗ sending ch rb k k' M c S O (n + 1) ∗ R) ⊢ Runs c (f ⟨⟩) Q) :
    iprop(ctx ch rb K ∗ sending ch rb k k' M c S O n ∗ R)
      ⊢ Runs c (Prog.lift (.enqueueDma src' (.remote (Dev.tc d : Thread nD τ) dst' (.dma s1) hsc) (.dma s2) hw1 hw2 hsem) >>= f) Q := by
  have hp : sendPre ch rb k k' M c j = iprop(xPay ch rb k c j ∗ (∃ X, owns (j : Thread nD τ) M fullShare X)
    ∗ (dutyTok ER (xCell k c j) 0 j ∗ reached ER (xCell k c j) 0) ∗ (dutyTok ER (xCell k' j c) 0 c ∗ reached ER (xCell k' j c) 0)) := if_neg hj
  have hq : sendPost ch rb k c j = cred (tallyAt (xCell k c j) () N) := if_neg hj
  unfold sending at hk ⊢
  rw [owe_erase (fun t => xCell k' t c) N (todo_mem hn hj), todo_erase hn, ← add_assoc]
  refine BIBase.Entails.trans ?pre (send_op ch rb K hd hj hsrc hdst hN es ed e1 e2 (O + owe (fun t => xCell k' t c) N (todo c (n + 1)))
    (R := iprop(ctx ch rb K ∗ (sendPost ch rb k c j -∗ sweep S (sendPre ch rb k k' M c) (sendPost ch rb k c) (n + 1)) ∗ R)) ?cont)
  case cont =>
    rw [← hq]
    iintro ⟨Hc, HO, #Hctx, HW, HR⟩
    iapply hk
    isplitr; · iexact Hctx
    isplitr [HR]
    · isplitl [Hc HW]
      · iapply HW; iexact Hc
      · iexact HO
    · iexact HR
  iintro ⟨#Hctx, ⟨Hs, HO⟩, HR⟩
  icases (sweep_take hS hn) $$ Hs with ⟨Hj, HW⟩
  icases (Entails.of_eq hp) $$ Hj with ⟨Hp, Hd, Ht1, Ht2⟩
  isplitr
  · unfold ctx; icases Hctx with ⟨#HI, -⟩; iexact HI
  isplitl [Hp]; · iexact Hp
  isplitl [Hd]; · iexact Hd
  isplitl [Ht1]; · iexact Ht1
  isplitl [Ht2]; · iexact Ht2
  isplitl [HO]; · iexact HO
  isplitr; · iexact Hctx
  isplitl [HW]; · iexact HW
  iexact HR

theorem wait_skip {k : Fin 4} {Z : sProp 𝕄} {O : CellTallies nD τ sig Unit} {n : ℕ} {j : Dev nD} (hn : j.val = n) (h : j = c) {R : sProp 𝕄} :
    iprop(ctx ch rb K ∗ waiting ch rb k c Z O n ∗ R) ⊢ iprop(ctx ch rb K ∗ waiting ch rb k c Z O (n + 1) ∗ R) := by
  refine sep_mono .rfl (sep_mono ?_ .rfl)
  unfold waiting
  refine sep_mono (sweep_skip hn ?_) .rfl
  unfold waitPre waitPost
  rw [if_pos h, if_pos h, if_pos h]

/-- A wait taken, with what it pays given out for use until the pass goes on. -/
theorem wait_use {k : Fin 4} {Z : sProp 𝕄} {O : CellTallies nD τ sig Unit} {n : ℕ} {j : Dev nD} (hn : j.val = n) (hj : j ≠ c)
    {sm : DmaSem sig} (es : sm = xs k j) {src dst : Memref sig .tc .vmem S64x512 .bf16} {hw1 : src.view.WordExact}
    {hw2 : dst.view.WordExact} (hN : dst.view.dmaCredit = N)
    (hmay : (levAts L lv : sProp 𝕄) ⊢ MayWait (c : Thread nD τ) (.dma (xs k j)) () O) {Q : α → sProp 𝕄} {R : sProp 𝕄}
    (hk : iprop(xPay ch rb k c j ∗ ctx ch rb K ∗ (xPay ch rb k c j -∗ waiting ch rb k c Z O (n + 1)) ∗ R) ⊢ Runs c (f ⟨⟩) Q) :
    iprop(ctx ch rb K ∗ waiting ch rb k c Z O n ∗ R) ⊢ Runs c (Prog.lift (.waitDma2 sm src dst hw1 hw2) >>= f) Q := by
  have hp : waitPre k c Z j = iprop(atPos ER (xCell k c j) 0 ∅ 0 ∗ cred (tallyAt (xCell k c j) () N)) := by
    unfold waitPre; rw [if_neg hj]
  have hq : waitPost ch rb k c Z j = iprop(atPos ER (xCell k c j) (0 + 1) ∅ 0 ∗ xPay ch rb k c j) := by
    unfold waitPost; rw [if_neg hj, if_neg hj]
  unfold waiting at hk ⊢
  refine BIBase.Entails.trans ?pre (wait_op ch rb K hj es hN O hmay
    (R := iprop(ctx ch rb K ∗ (waitPost ch rb k c Z j -∗ sweep Finset.univ (waitPre k c Z) (waitPost ch rb k c Z) (n + 1)) ∗ R)) ?cont)
  case cont =>
    iintro ⟨Hat, Hp, HO, #Hctx, HW, HR⟩
    iapply hk
    isplitl [Hp]; · iexact Hp
    isplitr; · iexact Hctx
    isplitr [HR]
    · iintro Hp
      isplitr [HO]
      · iapply HW; iapply (Entails.of_eq hq.symm); isplitl [Hat]
        · iexact Hat
        · iexact Hp
      · iexact HO
    · iexact HR
  iintro ⟨#Hctx, ⟨Hs, HO⟩, HR⟩
  icases (sweep_take (Finset.mem_univ j) hn) $$ Hs with ⟨Hj, HW⟩
  icases (Entails.of_eq hp) $$ Hj with ⟨Hat, Hc⟩
  unfold ctx; icases Hctx with ⟨#HI, #HL⟩
  isplitr; · iexact HI
  isplitr; · iexact HL
  isplitl [Hat]; · iexact Hat
  isplitl [Hc]; · iexact Hc
  isplitl [HO]; · iexact HO
  isplitr
  · isplitr; · iexact HI
    iexact HL
  isplitl [HW]; · iexact HW
  iexact HR

theorem wait_taken {k : Fin 4} {Z : sProp 𝕄} {O : CellTallies nD τ sig Unit} {n : ℕ} {j : Dev nD} (hn : j.val = n) (hj : j ≠ c)
    {sm : DmaSem sig} (es : sm = xs k j) {src dst : Memref sig .tc .vmem S64x512 .bf16} {hw1 : src.view.WordExact}
    {hw2 : dst.view.WordExact} (hN : dst.view.dmaCredit = N)
    (hmay : (levAts L lv : sProp 𝕄) ⊢ MayWait (c : Thread nD τ) (.dma (xs k j)) () O) {Q : α → sProp 𝕄} {R : sProp 𝕄}
    (hk : iprop(ctx ch rb K ∗ waiting ch rb k c Z O (n + 1) ∗ R) ⊢ Runs c (f ⟨⟩) Q) :
    iprop(ctx ch rb K ∗ waiting ch rb k c Z O n ∗ R) ⊢ Runs c (Prog.lift (.waitDma2 sm src dst hw1 hw2) >>= f) Q :=
  wait_use ch rb K hn hj es hN hmay (by
    iintro ⟨Hp, Hctx, HW, HR⟩
    iapply hk
    isplitl [Hctx]; · iexact Hctx
    isplitl [HW Hp]
    · iapply HW; iexact Hp
    · iexact HR)

/-- A landed chunk added to the running sum. -/
theorem recv_taken {Z : sProp 𝕄} {O : CellTallies nD τ sig Unit} {n : ℕ} {j : Dev nD} (hn : j.val = n) (hj : j ≠ c)
    {sm : DmaSem sig} (es : sm = xs 1 j) {src dst : Memref sig .tc .vmem S64x512 .bf16} {hw1 : src.view.WordExact}
    {hw2 : dst.view.WordExact} (hN : dst.view.dmaCredit = N)
    (hmay : (levAts L lv : sProp 𝕄) ⊢ MayWait (c : Thread nD τ) (.dma (xs 1 j)) () O)
    {o : Fin 3 → ℕ} {inb : ∀ a, o a + S1x64x512.size a ≤ S8x64x512.size a} (ho : o = ![j.val, 0, 0])
    {o1 o2 o3 : Fin 2 → ℕ} {i1 : ∀ a, o1 a + S64x512.size a ≤ S64x512.size a} {i2 : ∀ a, o2 a + S64x512.size a ≤ S64x512.size a}
    {i3 : ∀ a, o3 a + S64x512.size a ≤ S64x512.size a} (h1 : o1 = fun _ => 0) (h2 : o2 = fun _ => 0) (h3 : o3 = fun _ => 0)
    {l1 : sM.view.LoadsAt (Rect.unit (s := S64x512) o1 S64x512.size i1).toLoadRect}
    {l2 : (Memref.whole cc0_scratch1).view.LoadsAt (Rect.unit (s := S8x64x512) o S1x64x512.size inb).toLoadRect}
    {l3 : sM.view.LoadsAt (Rect.unit (s := S64x512) o2 S64x512.size i2).toLoadRect}
    {hx : (sM.access (Rect.unit (s := S64x512) o3 S64x512.size i3)).Stores Finset.univ}
    {hm : (Finset.univ : Finset S64x512.Idx) = Finset.univ ∨ ∀ a, (Rect.unit (s := S64x512) o3 S64x512.size i3).stride a = 1}
    {a : S64x512.Idx → Elt F .f32} {g : (S64x512.Idx → Elt F .f32) → (S1x64x512.Idx → Elt F .bf16) → S64x512.Idx → Elt F .f32}
    {Q : α → sProp 𝕄} {R : sProp 𝕄}
    (hk : iprop(ctx ch rb K ∗ waiting ch rb 1 c Z O (n + 1) ∗ owns (c : Thread nD τ) sM fullShare (g a (up (ch j c))) ∗ R) ⊢ Runs c (f ⟨⟩) Q) :
    iprop(ctx ch rb K ∗ waiting ch rb 1 c Z O n ∗ owns (c : Thread nD τ) sM fullShare a ∗ R)
      ⊢ Runs c (Prog.lift (.waitDma2 sm src dst hw1 hw2) >>= fun _ =>
          Prog.lift (.load sM (Rect.unit (s := S64x512) o1 S64x512.size i1).toLoadRect l1) >>= fun x =>
          Prog.lift (.load (Memref.whole cc0_scratch1) (Rect.unit (s := S8x64x512) o S1x64x512.size inb).toLoadRect l2) >>= fun y =>
          Prog.lift (.load sM (Rect.unit (s := S64x512) o2 S64x512.size i2).toLoadRect l3) >>= fun _ =>
          Prog.lift (.store sM (Rect.unit (s := S64x512) o3 S64x512.size i3) (g x y) Finset.univ hx hm) >>= f) Q := by
  subst ho
  have hp : xPay ch rb 1 c j = (owns (c : Thread nD τ) ((Memref.whole cc0_scratch1).slice (slotR j) (fun _ => rfl)) fullShare (up (ch j c)) : sProp 𝕄) :=
    slot_up c (Memref.whole cc0_scratch1) j fullShare (ch j c)
  refine wait_use ch rb K hn hj es hN hmay ?_
  rw [hp]
  iintro ⟨Hp, Hctx, HW, Ha, HR⟩
  iapply (load_whole h1 (q := fullShare) (X := a) (R := iprop(owns (c : Thread nD τ) ((Memref.whole cc0_scratch1).slice (slotR j) (fun _ => rfl)) fullShare (up (ch j c))
    ∗ (ctx ch rb K ∗ (owns (c : Thread nD τ) ((Memref.whole cc0_scratch1).slice (slotR j) (fun _ => rfl)) fullShare (up (ch j c)) -∗ waiting ch rb 1 c Z O (n + 1)) ∗ R))) ?_)
  · iintro ⟨Ha, Hp, Hr⟩
    iapply (load_slice (m := Memref.whole cc0_scratch1) (r := slotR j) (hr := fun _ => rfl) (q := fullShare) (X := up (ch j c))
      (R := iprop(owns (c : Thread nD τ) sM fullShare a
        ∗ (ctx ch rb K ∗ (owns (c : Thread nD τ) ((Memref.whole cc0_scratch1).slice (slotR j) (fun _ => rfl)) fullShare (up (ch j c)) -∗ waiting ch rb 1 c Z O (n + 1)) ∗ R))) ?_)
    · iintro ⟨Hp, Ha, Hr⟩
      iapply (load_whole h2 (q := fullShare) (X := a) (R := iprop(owns (c : Thread nD τ) ((Memref.whole cc0_scratch1).slice (slotR j) (fun _ => rfl)) fullShare (up (ch j c))
        ∗ (ctx ch rb K ∗ (owns (c : Thread nD τ) ((Memref.whole cc0_scratch1).slice (slotR j) (fun _ => rfl)) fullShare (up (ch j c)) -∗ waiting ch rb 1 c Z O (n + 1)) ∗ R))) ?_)
      · refine store_whole h3 ?_
        iintro ⟨Ha, Hp, Hctx, HW, HR⟩
        iapply hk
        isplitl [Hctx]; · iexact Hctx
        isplitl [HW Hp]
        · iapply HW; iexact Hp
        isplitl [Ha]; · iexact Ha
        iexact HR
      · isplitl [Ha]; · iexact Ha
        isplitl [Hp]; · iexact Hp
        iexact Hr
    · isplitl [Hp]; · iexact Hp
      isplitl [Ha]; · iexact Ha
      iexact Hr
  · isplitl [Ha]; · iexact Ha
    isplitl [Hp]; · iexact Hp
    isplitl [Hctx]; · iexact Hctx
    isplitl [HW]; · iexact HW
    iexact HR

/-- A landed sum written to its rows of the output. -/
theorem gather_taken {Z : sProp 𝕄} {O : CellTallies nD τ sig Unit} {n : ℕ} {j : Dev nD} (hn : j.val = n) (hj : j ≠ c)
    {sm : DmaSem sig} (es : sm = xs 3 j) {src dst : Memref sig .tc .vmem S64x512 .bf16} {hw1 : src.view.WordExact}
    {hw2 : dst.view.WordExact} (hN : dst.view.dmaCredit = N)
    (hmay : (levAts L lv : sProp 𝕄) ⊢ MayWait (c : Thread nD τ) (.dma (xs 3 j)) () O)
    {o : Fin 3 → ℕ} {inb : ∀ a, o a + S1x64x512.size a ≤ S8x64x512.size a} (ho : o = ![j.val, 0, 0])
    {o1 o2 : Fin 2 → ℕ} {i1 : ∀ a, o1 a + S64x512.size a ≤ S512x512.size a} {i2 : ∀ a, o2 a + S64x512.size a ≤ S512x512.size a}
    (h1 : o1 = ![64 * j.val, 0]) (h2 : o2 = ![64 * j.val, 0])
    {l1 : (Memref.whole cc0_scratch2).view.LoadsAt (Rect.unit (s := S8x64x512) o S1x64x512.size inb).toLoadRect}
    {l2 : (Memref.whole cc0_stg5_0).view.LoadsAt (Rect.unit (s := S512x512) o1 S64x512.size i1).toLoadRect}
    {hx : ((Memref.whole cc0_stg5_0).access (Rect.unit (s := S512x512) o2 S64x512.size i2)).Stores Finset.univ}
    {hm : (Finset.univ : Finset S64x512.Idx) = Finset.univ ∨ ∀ a, (Rect.unit (s := S512x512) o2 S64x512.size i2).stride a = 1}
    {g : (S1x64x512.Idx → Elt F .bf16) → S64x512.Idx → Elt F .f32} {w : Dev nD → S64x512.Idx → Elt F .f32} (hw : w j = g (up (rb j)))
    {Q : α → sProp 𝕄} {R : sProp 𝕄}
    (hk : iprop(ctx ch rb K ∗ waiting ch rb 3 c Z O (n + 1)
        ∗ sweep (peers c) (fun j => iprop(∃ X, owns (c : Thread nD τ) (oM j) fullShare X)) (fun j => owns (c : Thread nD τ) (oM j) fullShare (w j)) (n + 1) ∗ R) ⊢ Runs c (f ⟨⟩) Q) :
    iprop(ctx ch rb K ∗ waiting ch rb 3 c Z O n
        ∗ sweep (peers c) (fun j => iprop(∃ X, owns (c : Thread nD τ) (oM j) fullShare X)) (fun j => owns (c : Thread nD τ) (oM j) fullShare (w j)) n ∗ R)
      ⊢ Runs c (Prog.lift (.waitDma2 sm src dst hw1 hw2) >>= fun _ =>
          Prog.lift (.load (Memref.whole cc0_scratch2) (Rect.unit (s := S8x64x512) o S1x64x512.size inb).toLoadRect l1) >>= fun y =>
          Prog.lift (.load (Memref.whole cc0_stg5_0) (Rect.unit (s := S512x512) o1 S64x512.size i1).toLoadRect l2) >>= fun _ =>
          Prog.lift (.store (Memref.whole cc0_stg5_0) (Rect.unit (s := S512x512) o2 S64x512.size i2) (g y) Finset.univ hx hm) >>= f) Q := by
  subst ho h1 h2
  have hp : xPay ch rb 3 c j = (owns (c : Thread nD τ) ((Memref.whole cc0_scratch2).slice (slotR j) (fun _ => rfl)) fullShare (up (rb j)) : sProp 𝕄) :=
    slot_up c (Memref.whole cc0_scratch2) j fullShare (rb j)
  refine wait_use ch rb K hn hj es hN hmay ?_
  rw [hp]
  iintro ⟨Hp, Hctx, HW, Ho, HR⟩
  icases (sweep_take (Finset.mem_erase.mpr ⟨hj, Finset.mem_univ j⟩) hn) $$ Ho with ⟨⟨%X, Hj⟩, HV⟩
  rw [hw]
  iapply (load_slice (m := Memref.whole cc0_scratch2) (r := slotR j) (hr := fun _ => rfl) (q := fullShare) (X := up (rb j))
      (R := iprop(owns (c : Thread nD τ) ((Memref.whole cc0_stg5_0).slice (rowR j) (fun _ => rfl)) fullShare X
        ∗ (ctx ch rb K ∗ (owns (c : Thread nD τ) ((Memref.whole cc0_scratch2).slice (slotR j) (fun _ => rfl)) fullShare (up (rb j)) -∗ waiting ch rb 3 c Z O (n + 1))
          ∗ (owns (c : Thread nD τ) (oM j) fullShare (g (up (rb j))) -∗ sweep (peers c) (fun j => iprop(∃ X, owns (c : Thread nD τ) (oM j) fullShare X)) (fun j => owns (c : Thread nD τ) (oM j) fullShare (w j)) (n + 1)) ∗ R))) ?_)
  · iintro ⟨Hp, Hj, Hctx, HW, HV, HR⟩
    iapply (load_slice (m := Memref.whole cc0_stg5_0) (r := rowR j) (hr := fun _ => rfl) (q := fullShare) (X := X)
      (R := iprop(owns (c : Thread nD τ) ((Memref.whole cc0_scratch2).slice (slotR j) (fun _ => rfl)) fullShare (up (rb j))
        ∗ (ctx ch rb K ∗ (owns (c : Thread nD τ) ((Memref.whole cc0_scratch2).slice (slotR j) (fun _ => rfl)) fullShare (up (rb j)) -∗ waiting ch rb 3 c Z O (n + 1))
          ∗ (owns (c : Thread nD τ) (oM j) fullShare (g (up (rb j))) -∗ sweep (peers c) (fun j => iprop(∃ X, owns (c : Thread nD τ) (oM j) fullShare X)) (fun j => owns (c : Thread nD τ) (oM j) fullShare (w j)) (n + 1)) ∗ R))) ?_)
    · refine store_slice (m := Memref.whole cc0_stg5_0) (r := rowR j) (hr := fun _ => rfl) ?_
      iintro ⟨Hj, Hp, Hctx, HW, HV, HR⟩
      iapply hk
      isplitl [Hctx]; · iexact Hctx
      isplitl [HW Hp]
      · iapply HW; iexact Hp
      isplitl [HV Hj]
      · iapply HV; iexact Hj
      iexact HR
    · isplitl [Hj]; · iexact Hj
      isplitl [Hp]; · iexact Hp
      isplitl [Hctx]; · iexact Hctx
      isplitl [HW]; · iexact HW
      isplitl [HV]; · iexact HV
      iexact HR
  · isplitl [Hp]; · iexact Hp
    isplitl [Hj]; · iexact Hj
    isplitl [Hctx]; · iexact Hctx
    isplitl [HW]; · iexact HW
    isplitl [HV]; · iexact HV
    iexact HR

theorem gather_skip {Z : sProp 𝕄} {O : CellTallies nD τ sig Unit} {n : ℕ} {j : Dev nD} (hn : j.val = n) (h : j = c)
    {Φ Ψ : Dev nD → sProp 𝕄} {R : sProp 𝕄} :
    iprop(ctx ch rb K ∗ waiting ch rb 3 c Z O n ∗ sweep (peers c) Φ Ψ n ∗ R)
      ⊢ iprop(ctx ch rb K ∗ waiting ch rb 3 c Z O (n + 1) ∗ sweep (peers c) Φ Ψ (n + 1) ∗ R) := by
  refine (wait_skip ch rb K hn h).trans (sep_mono .rfl (sep_mono .rfl (sep_mono ?_ .rfl)))
  refine Entails.of_eq (bigSep_congr fun i hi => ?_)
  have : i.val ≠ j.val := fun e => (Finset.mem_erase.mp hi).1 ((Fin.ext e).trans h)
  by_cases h' : n + 1 ≤ i.val
  · rw [if_pos h', if_pos (by omega)]
  · rw [if_neg h', if_neg (by omega)]

end Passes

end Cert.Proof

end
-- ==== Proof.Values.lean ====
/-
# What the kernel computes

Every value a device holds as a function of the devices' staged inputs: the partial product of its four heads, cut into
eight chunks of rows; the running sum of the chunks of its number; the rounded sum; and the output rows.
-/
module

public import proofs.«01_k».proof.Proof.Blocks

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The five inputs a device stages. -/
structure Ins (F : FTy → Type) where
  x : S2x256x512.Idx → Elt F .bf16
  q : S512x256.Idx → Elt F .bf16
  k : S2x4x256x64.Idx → Elt F .bf16
  v : S2x4x256x64.Idx → Elt F .bf16
  o : S256x512.Idx → Elt F .bf16

theorem inb_xAt (b : Fin 2) : ∀ a, (![b.val, 0, 0] : Fin 3 → ℕ) a + S1x256x512.size a ≤ S2x256x512.size a := by
  revert b; decide
theorem inb_kvAt (b : Fin 2) (h : Fin 4) : ∀ a, (![b.val, h.val, 0, 0] : Fin 4 → ℕ) a + S1x1x256x64.size a ≤ S2x4x256x64.size a := by
  revert b h; decide

/-- One of the two batches of the activations. -/
def xAt (X : S2x256x512.Idx → Elt F .bf16) (b : Fin 2) : S1x256x512.Idx → Elt F .bf16 :=
  fun i => X ((Rect.unit (s := S2x256x512) ![b.val, 0, 0] S1x256x512.size (inb_xAt b)).emb i)
/-- One head of one batch of the keys or values. -/
def kvAt (X : S2x4x256x64.Idx → Elt F .bf16) (b : Fin 2) (h : Fin 4) : S1x1x256x64.Idx → Elt F .bf16 :=
  fun i => X ((Rect.unit (s := S2x4x256x64) ![b.val, h.val, 0, 0] S1x1x256x64.size (inb_kvAt b h)).emb i)

/-- Row and column numbers of a 256×256 array. -/
abbrev rowI : IVec S256x256 32 := iota .tc S256x256 32 [0] iota_S256x256_d0_w32
abbrev colI : IVec S256x256 32 := iota .tc S256x256 32 [1] iota_S256x256_d1_w32

/-- The additive mask. -/
def maskV : FVec F S256x256 .f32 := k0_pay1 (F := F) rowI colI
abbrev zeroV : FVec F S256x256 .f32 := constant S256x256 .f32 0x00000000#32

/-- The queries of batch 0, and the heads' results. -/
def q0 (I : Ins F) : FVec F S256x256 .bf16 := k0_pay2 (xAt I.x 0) I.q
def h00 (I : Ins F) : FVec F S256x64 .f32 := k0_pay3 rowI colI (xAt I.x 0) I.q (kvAt I.k 0 0) (kvAt I.v 0 0)
def h01 (I : Ins F) : FVec F S256x64 .f32 :=
  k0_pay6 maskV (k0_pay4 (xAt I.x 0) I.q) (k0_pay5 (kvAt I.k 0 1)) zeroV (kvAt I.v 0 1)
def h02 (I : Ins F) : FVec F S256x64 .f32 := k0_pay7 maskV (q0 I) (kvAt I.k 0 2) (kvAt I.v 0 2)
def s03 (I : Ins F) : FVec F S256x256 .f32 := k0_pay8 maskV (q0 I) (kvAt I.k 0 3)
/-- Rows 0 … 255 of the partial product: batch 0. -/
def half0 (I : Ins F) : FVec F S256x512 .bf16 := k0_pay9 (h00 I) (h01 I) (h02 I) (s03 I) (kvAt I.v 0 3) I.o

def x1 (I : Ins F) : FVec F S256x512 .bf16 := k0_pay10 (xAt I.x 1)
def q1 (I : Ins F) : FVec F S256x256 .bf16 := k0_pay11 (x1 I) I.q
def h10 (I : Ins F) : FVec F S256x64 .f32 := k0_pay12 maskV (x1 I) I.q (kvAt I.k 1 0) (kvAt I.v 1 0)
def w11 (I : Ins F) : FVec F S256x256 .bf16 := k0_pay13 maskV (x1 I) I.q (kvAt I.k 1 1)
def a1 (I : Ins F) : FVec F S256x256 .f32 :=
  k0_pay14 maskV (q1 I) (h10 I) (w11 I) (kvAt I.v 1 1) (kvAt I.k 1 2) (kvAt I.v 1 2) (kvAt I.k 1 3) (kvAt I.v 1 3)
/-- Rows 256 … 511 of the partial product: batch 1. -/
def half1 (I : Ins F) : FVec F S256x512 .bf16 := k0_pay15 (a1 I) I.o

/-- The partial product by halves. -/
def halfV (I : Ins F) (h : Fin 2) : S256x512.Idx → Elt F .bf16 := if h = 0 then half0 I else half1 I

/-- The half chunk `j` lies in. -/
def halfOf (j : Dev nD) : Fin 2 := ⟨j.val / 4, by have : j.val < 8 := j.isLt; omega⟩
theorem inb_quarter (j : Dev nD) : ∀ a, (![64 * (j.val % 4), 0] : Fin 2 → Nat) a + S64x512.size a ≤ S256x512.size a := by
  revert j; decide
/-- Where it lies there. -/
abbrev quarterR (j : Dev nD) : Rect S256x512 := Rect.unit (s := S256x512) ![64 * (j.val % 4), 0] S64x512.size (inb_quarter j)

/-- Chunk `j` of a device's partial product. -/
def chunkV (I : Ins F) (j : Dev nD) : Blk F := fun i => halfV I (halfOf j) ((quarterR j).emb i)

section Sums
variable (I : Dev nD → Ins F)

/-- What device `c` sends device `j`. -/
def chV (c j : Dev nD) : Blk F := chunkV (I c) j

/-- Device `c`'s running sum once the chunks of devices below `n` are in. -/
def accV (c : Dev nD) : ℕ → S64x512.Idx → Elt F .f32
  | 0 => k0_pay16 (chV I c c)
  | n + 1 => if h : n < 8 then (if (⟨n, h⟩ : Fin 8) = c then accV c n else k0_pay17 (accV c n) (up (chV I ⟨n, h⟩ c))) else accV c n

/-- The rounded sum. -/
def rbV (c : Dev nD) : Blk F := k0_pay25 (accV I c 8)

/-- The output rows of device `j`'s chunk as device `c` writes them. -/
def outRow (c j : Dev nD) : S64x512.Idx → Elt F .f32 := if j = c then accV I c 8 else k0_pay26 (up (rbV I j))

theorem accV_self {c j : Dev nD} {n : ℕ} (hn : j.val = n) (h : j = c) : accV I c (n + 1) = accV I c n := by
  subst hn
  rw [accV, dif_pos j.isLt]
  exact if_pos h
theorem accV_peer {c j : Dev nD} {n : ℕ} (hn : j.val = n) (h : j ≠ c) : accV I c (n + 1) = k0_pay17 (accV I c n) (up (chV I j c)) := by
  subst hn
  rw [accV, dif_pos j.isLt]
  exact if_neg h

end Sums

/-- Chunks laid out as the 512×512 array they are rows of. -/
def glue {V : Type} (w : Dev nD → S64x512.Idx → V) : S512x512.Idx → V := fun i =>
  w (⟨(i 0).val / 64, by have : (i 0).val < 512 := (i 0).isLt; show _ < 8; omega⟩ : Fin 8)
    (fun a => match a with
      | 0 => ⟨(i 0).val % 64, Nat.mod_lt _ (by decide)⟩
      | 1 => i 1)

theorem glue_emb {V : Type} (w : Dev nD → S64x512.Idx → V) (j : Dev nD) (i : S64x512.Idx) : glue w ((rowR j).emb i) = w j i := by
  have h0 : ((rowR j).emb i 0).val = 64 * j.val + (i 0).val := by
    show 64 * j.val + 1 * (i 0).val = _; omega
  have h1 : ((rowR j).emb i 1).val = (i 1).val := by
    show 0 + 1 * (i 1).val = _; omega
  have hi : (i 0).val < 64 := (i 0).isLt
  unfold glue
  have e : (⟨((rowR j).emb i 0).val / 64, by have : ((rowR j).emb i 0).val < 512 := ((rowR j).emb i 0).isLt; show _ < 8; omega⟩ : Fin 8) = j :=
    Fin.ext (by show ((rowR j).emb i 0).val / 64 = j.val; rw [h0]; omega)
  rw [e]
  refine congrArg (w j) (funext fun a => ?_)
  match a with
  | 0 => exact Fin.ext (by show ((rowR j).emb i 0).val % 64 = (i 0).val; rw [h0]; omega)
  | 1 => exact Fin.ext h1

/-- The output of device `c`. -/
def outV (I : Dev nD → Ins F) (c : Dev nD) : S512x512.Idx → Elt F .f32 := glue (outRow I c)

end Cert.Proof

end
-- ==== Proof.Compute.lean ====
/-
# The parts that load and compute

Each part of the kernel that only reads its staged inputs, as the value it hands on.
-/
module

public import proofs.«01_k».proof.Proof.Values

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Loads that give back what they read from -/

section Loads

variable {α : Type} {c : Dev nD} {s : Shape} {e : EltTy}

theorem load_use {m : Memref sig .tc .vmem s e} {r : Rect s} {q : PosShare TreeShare} {X : s.Idx → Elt F e}
    {hl : m.view.LoadsAt r.toLoadRect} {f : (r.shape.Idx → Elt F e) → Prog (TpuEff nD τ sig (Elt F) Λ₀ .tc) α} {Q : α → sProp 𝕄} :
    (owns (c : Thread nD τ) m q X : sProp 𝕄)
      ⊢ iprop((owns (c : Thread nD τ) m q X -∗ Runs c (f fun i => X (r.emb i)) Q) -∗ Runs c (Prog.lift (.load m r.toLoadRect hl) >>= f) Q) := by
  iintro H HW
  iapply (load_part (m := m) (r := r) (q := q) (X := X) (hl := hl) (f := f)
    (R := iprop(owns (c : Thread nD τ) m q X -∗ Runs c (f fun i => X (r.emb i)) Q)) ?_)
  · iintro ⟨H, HW⟩
    iapply HW; iexact H
  · isplitl [H]
    · iexact H
    · iexact HW

theorem load_all {m : Memref sig .tc .vmem s e} {o : Fin s.rank → ℕ} {inb : ∀ a, o a + s.size a ≤ s.size a} (h : o = fun _ => 0)
    {q : PosShare TreeShare} {X : s.Idx → Elt F e} {hl : m.view.LoadsAt (Rect.unit (s := s) o s.size inb).toLoadRect}
    {f : (s.Idx → Elt F e) → Prog (TpuEff nD τ sig (Elt F) Λ₀ .tc) α} {Q : α → sProp 𝕄} :
    (owns (c : Thread nD τ) m q X : sProp 𝕄)
      ⊢ iprop((owns (c : Thread nD τ) m q X -∗ Runs c (f X) Q)
        -∗ Runs c (Prog.lift (.load m (Rect.unit (s := s) o s.size inb).toLoadRect hl) >>= f) Q) := by
  have e : (fun i => X ((Rect.unit (s := s) o s.size inb).emb i)) = X := funext fun i => congrArg X (unit_emb h inb i)
  have := load_use (F := F) (c := c) (m := m) (r := Rect.unit (s := s) o s.size inb) (q := q) (X := X) (hl := hl) (f := f) (Q := Q)
  rwa [e] at this

theorem store_all {m : Memref sig .tc .vmem s e} {o : Fin s.rank → ℕ} {inb : ∀ a, o a + s.size a ≤ s.size a} (h : o = fun _ => 0)
    {X w : s.Idx → Elt F e} {hx : (m.access (Rect.unit (s := s) o s.size inb)).Stores Finset.univ}
    {hm : (Finset.univ : Finset s.Idx) = Finset.univ ∨ ∀ a, (Rect.unit (s := s) o s.size inb).stride a = 1}
    {f : PUnit → Prog (TpuEff nD τ sig (Elt F) Λ₀ .tc) α} {Q : α → sProp 𝕄} :
    (owns (c : Thread nD τ) m fullShare X : sProp 𝕄)
      ⊢ iprop((owns (c : Thread nD τ) m fullShare w -∗ Runs c (f ⟨⟩) Q)
        -∗ Runs c (Prog.lift (.store m (Rect.unit (s := s) o s.size inb) w Finset.univ hx hm) >>= f) Q) := by
  iintro H HW
  iapply (store_whole h (m := m) (X := X) (w := w) (hx := hx) (hm := hm) (f := f)
    (R := iprop(owns (c : Thread nD τ) m fullShare w -∗ Runs c (f ⟨⟩) Q)) ?_)
  · iintro ⟨H, HW⟩
    iapply HW; iexact H
  · isplitl [H]
    · iexact H
    · iexact HW

end Loads

/-! ## The staged inputs -/

/-- Device `c` holds its staged inputs. -/
def insOf (c : Dev nD) (I : Ins F) : sProp 𝕄 :=
  iprop(owns (c : Thread nD τ) (Memref.whole cc0_stg0_0) fullShare I.x ∗ owns (c : Thread nD τ) (Memref.whole cc0_stg1_0) fullShare I.q
    ∗ owns (c : Thread nD τ) (Memref.whole cc0_stg2_0) fullShare I.k ∗ owns (c : Thread nD τ) (Memref.whole cc0_stg3_0) fullShare I.v
    ∗ owns (c : Thread nD τ) (Memref.whole cc0_stg4_0) fullShare I.o)

section Parts

variable {c : Dev nD} (I : Ins F)

/-- Batch 0: the mask, the queries, head 0. -/
theorem run4 {R : sProp 𝕄} :
    iprop(insOf c I ∗ R) ⊢ Runs c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 rowI colI)
      (fun r => iprop(⌜r = ⟨maskV, q0 I, h00 I, k0_pay4 (xAt I.x 0) I.q, k0_pay5 (kvAt I.k 0 1), zeroV⟩⌝ ∗ (insOf c I ∗ R))) := by
  rw [k0_part4_eq_skeleton]
  unfold k0_part4_skel insOf
  iintro ⟨⟨Hx, Hq, Hk, Hv, Ho⟩, HR⟩
  iapply (load_use (X := I.x)) $$ Hx; iintro Hx
  iapply (load_all zero2 (X := I.q)) $$ Hq; iintro Hq
  iapply (load_use (X := I.k)) $$ Hk; iintro Hk
  iapply (load_use (X := I.v)) $$ Hv; iintro Hv
  iapply (load_use (X := I.k)) $$ Hk; iintro Hk
  iapply (part_ret .rfl)
  isplitr [HR]
  · isplitl [Hx]; · iexact Hx
    isplitl [Hq]; · iexact Hq
    isplitl [Hk]; · iexact Hk
    isplitl [Hv]; · iexact Hv
    iexact Ho
  · iexact HR

/-- Batch 0: heads 1 and 2, and the scores of head 3. -/
theorem run5 {R : sProp 𝕄} :
    iprop(insOf c I ∗ R) ⊢ Runs c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 maskV (q0 I) (k0_pay4 (xAt I.x 0) I.q) (k0_pay5 (kvAt I.k 0 1)) zeroV)
      (fun r => iprop(⌜r = ⟨h01 I, h02 I, s03 I⟩⌝ ∗ (insOf c I ∗ R))) := by
  rw [k0_part5_eq_skeleton]
  unfold k0_part5_skel insOf
  iintro ⟨⟨Hx, Hq, Hk, Hv, Ho⟩, HR⟩
  iapply (load_use (X := I.v)) $$ Hv; iintro Hv
  iapply (load_use (X := I.k)) $$ Hk; iintro Hk
  iapply (load_use (X := I.v)) $$ Hv; iintro Hv
  iapply (load_use (X := I.k)) $$ Hk; iintro Hk
  iapply (part_ret .rfl)
  isplitr [HR]
  · isplitl [Hx]; · iexact Hx
    isplitl [Hq]; · iexact Hq
    isplitl [Hk]; · iexact Hk
    isplitl [Hv]; · iexact Hv
    iexact Ho
  · iexact HR

/-- Batch 1: the queries, head 0, the weights of head 1. -/
theorem run7 {R : sProp 𝕄} :
    iprop(insOf c I ∗ R) ⊢ Runs c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 maskV (x1 I))
      (fun r => iprop(⌜r = ⟨q1 I, h10 I, w11 I, kvAt I.v 1 1⟩⌝ ∗ (insOf c I ∗ R))) := by
  rw [k0_part7_eq_skeleton]
  unfold k0_part7_skel insOf
  iintro ⟨⟨Hx, Hq, Hk, Hv, Ho⟩, HR⟩
  iapply (load_all zero2 (X := I.q)) $$ Hq; iintro Hq
  iapply (load_use (X := I.k)) $$ Hk; iintro Hk
  iapply (load_use (X := I.v)) $$ Hv; iintro Hv
  iapply (load_use (X := I.k)) $$ Hk; iintro Hk
  iapply (load_use (X := I.v)) $$ Hv; iintro Hv
  iapply (part_ret .rfl)
  isplitr [HR]
  · isplitl [Hx]; · iexact Hx
    isplitl [Hq]; · iexact Hq
    isplitl [Hk]; · iexact Hk
    isplitl [Hv]; · iexact Hv
    iexact Ho
  · iexact HR

/-- Batch 1: the heads together. -/
theorem run8 {R : sProp 𝕄} :
    iprop(insOf c I ∗ R) ⊢ Runs c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 maskV (q1 I) (h10 I) (w11 I) (kvAt I.v 1 1))
      (fun r => iprop(⌜r = a1 I⌝ ∗ (insOf c I ∗ R))) := by
  rw [k0_part8_eq_skeleton]
  unfold k0_part8_skel insOf
  iintro ⟨⟨Hx, Hq, Hk, Hv, Ho⟩, HR⟩
  iapply (load_use (X := I.k)) $$ Hk; iintro Hk
  iapply (load_use (X := I.v)) $$ Hv; iintro Hv
  iapply (load_use (X := I.k)) $$ Hk; iintro Hk
  iapply (load_use (X := I.v)) $$ Hv; iintro Hv
  iapply (part_ret .rfl)
  isplitr [HR]
  · isplitl [Hx]; · iexact Hx
    isplitl [Hq]; · iexact Hq
    isplitl [Hk]; · iexact Hk
    isplitl [Hv]; · iexact Hv
    iexact Ho
  · iexact HR

end Parts

end Cert.Proof

end
-- ==== Proof.Signals.lean ====
/-
# The parts that signal

The first three parts: a device signals its seven peers in order of distance and waits for theirs.
-/
module

public import proofs.«01_k».proof.Proof.Compute

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The peers of `c` at distance more than `n`. -/
def far (c : Dev nD) (n : ℕ) : Finset (Dev nD) := Finset.univ.filter fun t => n < (t.val + 8 - c.val) % 8
/-- The peer of `c` at distance `n + 1`. -/
def peerAt (c : Dev nD) (n : ℕ) : Dev nD := (⟨(c.val + n + 1) % 8, Nat.mod_lt _ (by decide)⟩ : Fin 8)

theorem far_zero (c : Dev nD) : far c 0 = peers c := by revert c; decide
theorem far_seven (c : Dev nD) : far c 7 = ∅ := by revert c; decide
theorem peerAt_facts : ∀ (c : Fin 8) (n : Fin 7), peerAt c n.val ∈ far c n.val ∧ (far c n.val).erase (peerAt c n.val) = far c (n.val + 1) ∧ peerAt c n.val ≠ c := by
  decide

/-- The word holding a device's number. -/
def devW (c : Dev nD) : BitVec 32 := Scalar.remsi (Scalar.divsi (Dev.word c) 1#32) 8#32

section Signals

variable (ch : Dev nD → Dev nD → Blk F) (rb : Dev nD → Blk F) (K : GSem nD τ sig → ℕ) {c : Dev nD}

/-- What the signal of `c` to `t` takes. -/
def sigRes (c t : Dev nD) : sProp 𝕄 := iprop(dutyTok ER (barCell t) 0 c ∗ barPay (F := F) t c ∗ reached ER (barCell t) 0)
/-- Signals given up to distance `n`. -/
def signalling (c : Dev nD) (O : CellTallies nD τ sig Unit) (n : ℕ) : sProp 𝕄 :=
  iprop(bigSep (far c n) (sigRes (F := F) c) ∗ debt c (O + oweB (far c n)))

theorem signal_step {α : Type} {f : PUnit → Prog (TpuEff nD τ sig (Elt F) Λ₀ .tc) α} {Q : α → sProp 𝕄} {R : sProp 𝕄}
    {O : CellTallies nD τ sig Unit} {d : Dev nD} (n : Fin 7) (hd : d = peerAt c n.val) {s : Sem sig} (hs : s = barS)
    (hk : iprop(ctx ch rb K ∗ signalling c O (n.val + 1) ∗ R) ⊢ Runs c (f ⟨⟩) Q) :
    iprop(ctx ch rb K ∗ signalling c O n.val ∗ R) ⊢ Runs c (semSignalWord d s 1#32 >>= f) Q := by
  subst hs
  obtain ⟨h1, h2, h3⟩ := peerAt_facts c n
  unfold signalling at hk ⊢
  rw [bigSep_erase h1, h2]
  unfold oweB at hk ⊢
  rw [owe_erase barCell 1 h1, h2, ← add_assoc]
  unfold sigRes at hk ⊢
  refine BIBase.Entails.trans ?pre (signal_op ch rb K hd h3 (O + owe barCell 1 (far c (n.val + 1)))
    (R := iprop(ctx ch rb K ∗ bigSep (far c (n.val + 1)) (fun t => iprop(dutyTok ER (barCell t) 0 c ∗ barPay (F := F) t c ∗ reached ER (barCell t) 0)) ∗ R)) ?cont)
  case cont =>
    iintro ⟨HO, Hctx, HS, HR⟩
    iapply hk
    isplitl [Hctx]; · iexact Hctx
    isplitr [HR]
    · isplitl [HS]; · iexact HS
      iexact HO
    · iexact HR
  show iprop(ctx ch rb K ∗ (((dutyTok ER (barCell (peerAt c n.val)) 0 c ∗ barPay (F := F) (peerAt c n.val) c ∗ reached ER (barCell (peerAt c n.val)) 0) ∗ _) ∗ _) ∗ R) ⊢ _
  iintro ⟨#Hctx, ⟨⟨⟨Ht, Hp, Hr⟩, HS⟩, HO⟩, HR⟩
  isplitr
  · unfold ctx; icases Hctx with ⟨#HI, -⟩; iexact HI
  isplitl [Ht]; · iexact Ht
  isplitl [Hp]; · iexact Hp
  isplitl [Hr]; · iexact Hr
  isplitl [HO]; · iexact HO
  isplitr; · iexact Hctx
  isplitl [HS]; · iexact HS
  iexact HR

theorem barrier_step {α : Type} {f : PUnit → Prog (TpuEff nD τ sig (Elt F) Λ₀ .tc) α} {Q : α → sProp 𝕄} {R : sProp 𝕄}
    {T T' : Finset (Dev nD)} {s : Sem sig} (hs : s = barS)
    (hk : iprop(ctx ch rb K ∗ debt c (oweC c T + oweA c T') ∗ atPos ER (barCell c) (0 + 1) ∅ 0
        ∗ bigSep (peers c) (fun e => barPay (F := F) c e) ∗ R) ⊢ Runs c (f ⟨⟩) Q) :
    iprop(ctx ch rb K ∗ signalling c (oweC c T + oweA c T') 7 ∗ (cred (tallyAt (barCell c) () 7) ∗ atPos ER (barCell c) 0 ∅ 0) ∗ R)
      ⊢ Runs c (semWaitWord s 7#32 >>= f) Q := by
  subst hs
  refine BIBase.Entails.trans ?pre (barrier_op ch rb K (oweC c T + oweA c T') (mayWait_bar c T T') (R := iprop(ctx ch rb K ∗ R)) ?cont)
  case cont =>
    iintro ⟨HO, Hat, Hp, Hctx, HR⟩
    iapply hk
    isplitl [Hctx]; · iexact Hctx
    isplitl [HO]; · iexact HO
    isplitl [Hat]; · iexact Hat
    isplitl [Hp]; · iexact Hp
    iexact HR
  unfold signalling oweB
  rw [far_seven, owe_empty, add_zero]
  iintro ⟨#Hctx, ⟨-, HO⟩, ⟨Hc, Hat⟩, HR⟩
  unfold ctx
  icases Hctx with ⟨#HI, #HL⟩
  isplitr; · iexact HI
  isplitr; · iexact HL
  isplitl [Hc]; · iexact Hc
  isplitl [Hat]; · iexact Hat
  isplitl [HO]; · iexact HO
  isplitr
  · isplitr; · iexact HI
    iexact HL
  iexact HR

theorem dev1_eq (c : Dev nD) : (⟨k0_dev1 c, k0_dev1_lt c⟩ : Dev nD) = peerAt c 0 := by
  revert c; decide +kernel
theorem dev2_eq (c : Dev nD) : (⟨k0_dev2 c, k0_dev2_lt c⟩ : Dev nD) = peerAt c 1 := by
  revert c; decide +kernel
theorem dev3_eq (c : Dev nD) : (⟨k0_dev3 c, k0_dev3_lt c⟩ : Dev nD) = peerAt c 2 := by
  revert c; decide +kernel
theorem dev4_eq (c : Dev nD) : (⟨k0_dev4 c, k0_dev4_lt c⟩ : Dev nD) = peerAt c 3 := by
  revert c; decide +kernel
theorem dev5_eq (c : Dev nD) : (⟨k0_dev5 c, k0_dev5_lt c⟩ : Dev nD) = peerAt c 4 := by
  revert c; decide +kernel
theorem dev6_eq (c : Dev nD) : (⟨k0_dev6 c, k0_dev6_lt c⟩ : Dev nD) = peerAt c 5 := by
  revert c; decide +kernel
theorem dev7_eq (c : Dev nD) : (⟨k0_dev7 c, k0_dev7_lt c⟩ : Dev nD) = peerAt c 6 := by
  revert c; decide +kernel

theorem run1 {O : CellTallies nD τ sig Unit} {R : sProp 𝕄} :
    iprop(ctx ch rb K ∗ signalling c O 0 ∗ R) ⊢ Runs c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 )
      (fun r => iprop(⌜r = ⟨c, devW c, (SemArray.scalar (sig.barrier 0 rfl)), (Scalar.addi (devW c) 3#32), 8#32, Scalar.cmpi .eq 8#32 0#32⟩⌝
        ∗ (ctx ch rb K ∗ signalling c O 2 ∗ R))) := by
  rw [k0_part1_eq_skeleton]
  unfold k0_part1_skel
  rw [lift_bind]
  show _ ⊢ wp _ _ _ _ _
  rw [wp_deviceId]
  refine signal_step ch rb K 0 (dev1_eq c) rfl ?_
  refine signal_step ch rb K 1 (dev2_eq c) rfl ?_
  exact part_ret .rfl

theorem run2 {O : CellTallies nD τ sig Unit} {R : sProp 𝕄} :
    iprop(ctx ch rb K ∗ signalling c O 2 ∗ R) ⊢ Runs c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c (devW c) (SemArray.scalar (sig.barrier 0 rfl)) (Scalar.addi (devW c) 3#32) 8#32 (Scalar.cmpi .eq 8#32 0#32))
      (fun r => iprop(⌜r = ⟨(Scalar.remsi (Scalar.addi (devW c) 5#32) (Scalar.select (Scalar.cmpi .eq 8#32 0#32) 1#32 8#32)), (Scalar.andi (Scalar.xori (Scalar.cmpi .slt (Scalar.remsi (Scalar.addi (devW c) 5#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.addi (devW c) 5#32) (Scalar.select (Scalar.cmpi .eq 8#32 0#32) 1#32 8#32)) 0#32)), (Scalar.addi (Scalar.remsi (Scalar.addi (devW c) 5#32) (Scalar.select (Scalar.cmpi .eq 8#32 0#32) 1#32 8#32)) (Scalar.select (Scalar.cmpi .eq 8#32 0#32) 1#32 8#32))⟩⌝
        ∗ (ctx ch rb K ∗ signalling c O 4 ∗ R))) := by
  rw [k0_part2_eq_skeleton]
  unfold k0_part2_skel
  refine signal_step ch rb K 2 (dev3_eq c) rfl ?_
  refine signal_step ch rb K 3 (dev4_eq c) rfl ?_
  exact part_ret .rfl

theorem run3 {T T' : Finset (Dev nD)} {R : sProp 𝕄} :
    iprop(ctx ch rb K ∗ signalling c (oweC c T + oweA c T') 4 ∗ (cred (tallyAt (barCell c) () 7) ∗ atPos ER (barCell c) 0 ∅ 0) ∗ R)
      ⊢ Runs c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c (devW c) (SemArray.scalar (sig.barrier 0 rfl)) (Scalar.remsi (Scalar.addi (devW c) 5#32) (Scalar.select (Scalar.cmpi .eq 8#32 0#32) 1#32 8#32)) (Scalar.andi (Scalar.xori (Scalar.cmpi .slt (Scalar.remsi (Scalar.addi (devW c) 5#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.addi (devW c) 5#32) (Scalar.select (Scalar.cmpi .eq 8#32 0#32) 1#32 8#32)) 0#32)) (Scalar.addi (Scalar.remsi (Scalar.addi (devW c) 5#32) (Scalar.select (Scalar.cmpi .eq 8#32 0#32) 1#32 8#32)) (Scalar.select (Scalar.cmpi .eq 8#32 0#32) 1#32 8#32)))
      (fun r => iprop(⌜r = ⟨rowI, colI⟩⌝
        ∗ (ctx ch rb K ∗ debt c (oweC c T + oweA c T') ∗ atPos ER (barCell c) (0 + 1) ∅ 0 ∗ bigSep (peers c) (fun e => barPay (F := F) c e) ∗ R))) := by
  rw [k0_part3_eq_skeleton]
  unfold k0_part3_skel
  refine signal_step ch rb K 4 (dev5_eq c) rfl ?_
  refine signal_step ch rb K 5 (dev6_eq c) rfl ?_
  refine signal_step ch rb K 6 (dev7_eq c) rfl ?_
  refine barrier_step ch rb K rfl ?_
  exact part_ret .rfl

end Signals

end Cert.Proof

end
-- ==== Proof.Pieces.lean ====
/-
# Splitting and joining buffers

The chunks of a 512×512 buffer, the slots of an 8×64×512 one, the halves of the partial product and the chunks of a half.
-/
module

public import proofs.«01_k».proof.Proof.Signals
public import Idealize.ShloMosaic.Lib.Memref

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Families of rectangles -/

/-- Contents given on disjoint rectangles are those of one array. -/
theorem exists_glue {s : Shape} {ι V : Type} [Nonempty V] (r : ι → Rect s) (hd : ∀ t t', t ≠ t' → Disjoint (r t).set (r t').set)
    (w : ∀ t, (r t).shape.Idx → V) : ∃ X : s.Idx → V, ∀ t i, X ((r t).emb i) = w t i := by
  classical
  refine ⟨fun y => if h : ∃ p : (Σ t, (r t).shape.Idx), (r p.1).emb p.2 = y then w h.choose.1 h.choose.2 else Classical.arbitrary V, fun t i => ?_⟩
  have h : ∃ p : (Σ t, (r t).shape.Idx), (r p.1).emb p.2 = (r t).emb i := ⟨⟨t, i⟩, rfl⟩
  show (dite _ _ _ : V) = _
  rw [dif_pos h]
  have hs := h.choose_spec
  generalize h.choose = p at hs
  obtain ⟨t', i'⟩ := p
  have ht : t' = t := by
    by_contra hne
    have h1 : (r t').emb i' ∈ (r t').set := by
      rw [← Rect.map_emb_univ]; exact Finset.mem_map_of_mem _ (Finset.mem_univ _)
    have h2 : (r t').emb i' ∈ (r t).set := by
      rw [← Rect.map_emb_univ]; exact hs ▸ Finset.mem_map_of_mem _ (Finset.mem_univ _)
    exact Finset.disjoint_left.mp (hd t' t hne) h1 h2
  subst ht
  exact congrArg (w t') ((r t').emb.injective hs)

theorem rows_disj : ∀ t t' : Dev nD, t ≠ t' → Disjoint (rowR t).set (rowR t').set := fun t t' h =>
  Rect.unit_disjoint 0 (by
    have : t.val ≠ t'.val := fun e => h (Fin.ext e)
    show 64 * t.val + 64 ≤ 64 * t'.val ∨ 64 * t'.val + 64 ≤ 64 * t.val
    omega)
theorem slots_disj : ∀ t t' : Dev nD, t ≠ t' → Disjoint (slotR t).set (slotR t').set := fun t t' h =>
  Rect.unit_disjoint 0 (by
    have : t.val ≠ t'.val := fun e => h (Fin.ext e)
    show t.val + 1 ≤ t'.val ∨ t'.val + 1 ≤ t.val
    omega)

theorem rows_cover : (Finset.univ : Finset (Dev nD)).biUnion (fun t => (rowR t).set) = Finset.univ := by
  refine Finset.eq_univ_of_forall fun i => Finset.mem_biUnion.mpr ⟨(⟨(i 0).val / 64, by have : (i 0).val < 512 := (i 0).isLt; show _ < 8; omega⟩ : Fin 8), Finset.mem_univ _, Rect.mem_set_unit.mpr fun a => ?_⟩
  match a with
  | 0 => exact ⟨by show 64 * ((i 0).val / 64) ≤ _; omega, by show _ < 64 * ((i 0).val / 64) + 64; omega⟩
  | 1 => exact ⟨Nat.zero_le _, by have : (i 1).val < 512 := (i 1).isLt; show _ < 0 + 512; omega⟩
theorem slots_cover : (Finset.univ : Finset (Dev nD)).biUnion (fun t => (slotR t).set) = Finset.univ := by
  refine Finset.eq_univ_of_forall fun i => Finset.mem_biUnion.mpr ⟨(i 0 : Fin 8), Finset.mem_univ _, Rect.mem_set_unit.mpr fun a => ?_⟩
  match a with
  | 0 => exact ⟨by show (i 0).val ≤ _; omega, by show _ < (i 0).val + 1; omega⟩
  | 1 => exact ⟨Nat.zero_le _, by have : (i 1).val < 64 := (i 1).isLt; show _ < 0 + 64; omega⟩
  | 2 => exact ⟨Nat.zero_le _, by have : (i 2).val < 512 := (i 2).isLt; show _ < 0 + 512; omega⟩

/-- A half of the partial product. -/
theorem inb_half (h : Fin 2) : ∀ a, (![256 * h.val, 0] : Fin 2 → Nat) a + S256x512.size a ≤ S512x512.size a := by
  revert h; decide
abbrev halfR (h : Fin 2) : Rect S512x512 := Rect.unit (s := S512x512) ![256 * h.val, 0] S256x512.size (inb_half h)
abbrev hM (h : Fin 2) : Memref sig .tc .vmem S256x512 .bf16 := (Memref.whole cc0_scratch0).slice (halfR h) (fun _ => rfl)
/-- The chunks of a half. -/
def grp (h : Fin 2) : Finset (Dev nD) := Finset.univ.filter fun j => halfOf j = h

theorem halves_disj : ∀ t t' : Fin 2, t ≠ t' → Disjoint (halfR t).set (halfR t').set := fun t t' h =>
  Rect.unit_disjoint 0 (by
    have : t.val ≠ t'.val := fun e => h (Fin.ext e)
    show 256 * t.val + 256 ≤ 256 * t'.val ∨ 256 * t'.val + 256 ≤ 256 * t.val
    omega)
theorem halves_cover : (Finset.univ : Finset (Fin 2)).biUnion (fun t => (halfR t).set) = Finset.univ := by
  refine Finset.eq_univ_of_forall fun i => Finset.mem_biUnion.mpr ⟨(⟨(i 0).val / 256, by have : (i 0).val < 512 := (i 0).isLt; omega⟩ : Fin 2), Finset.mem_univ _, Rect.mem_set_unit.mpr fun a => ?_⟩
  match a with
  | 0 => exact ⟨by show 256 * ((i 0).val / 256) ≤ _; omega, by show _ < 256 * ((i 0).val / 256) + 256; omega⟩
  | 1 => exact ⟨Nat.zero_le _, by have : (i 1).val < 512 := (i 1).isLt; show _ < 0 + 512; omega⟩

theorem quarters_disj (h : Fin 2) : ∀ t t' : {j : Dev nD // halfOf j = h}, t ≠ t' → Disjoint (quarterR t.1).set (quarterR t'.1).set := fun t t' hne =>
  Rect.unit_disjoint 0 (by
    have h1 : t.1.val ≠ t'.1.val := fun e => hne (Subtype.ext (Fin.ext e))
    have h2 : t.1.val / 4 = t'.1.val / 4 := congrArg Fin.val (t.2.trans t'.2.symm)
    show 64 * (t.1.val % 4) + 64 ≤ 64 * (t'.1.val % 4) ∨ 64 * (t'.1.val % 4) + 64 ≤ 64 * (t.1.val % 4)
    omega)
theorem quarters_cover (h : Fin 2) :
    (Finset.univ : Finset {j : Dev nD // halfOf j = h}).biUnion (fun t => (quarterR t.1).set) = Finset.univ := by
  refine Finset.eq_univ_of_forall fun i => ?_
  have hi : (i 0).val < 256 := (i 0).isLt
  have hh : h.val < 2 := h.isLt
  refine Finset.mem_biUnion.mpr ⟨⟨(⟨4 * h.val + (i 0).val / 64, by show _ < 8; omega⟩ : Fin 8), Fin.ext (by show (4 * h.val + (i 0).val / 64) / 4 = h.val; omega)⟩, Finset.mem_univ _, Rect.mem_set_unit.mpr fun a => ?_⟩
  match a with
  | 0 => exact ⟨by show 64 * ((4 * h.val + (i 0).val / 64) % 4) ≤ (i 0).val; omega, by show (i 0).val < 64 * ((4 * h.val + (i 0).val / 64) % 4) + 64; omega⟩
  | 1 => exact ⟨Nat.zero_le _, by have : (i 1).val < 512 := (i 1).isLt; show _ < 0 + 512; omega⟩

/-! ## Buffers -/

section Buffers

variable {c : Dev nD} {e : EltTy}

theorem rows_split (b : Memref sig .tc .vmem S512x512 e) (X : S512x512.Idx → Elt F e) :
    (owns (c : Thread nD τ) b fullShare X : sProp 𝕄)
      ⊢ bigSep Finset.univ fun j : Dev nD => owns (c : Thread nD τ) (b.slice (rowR j) (fun _ => rfl)) fullShare (fun i => X ((rowR j).emb i)) :=
  owns_rects (c : Thread nD τ) b fullShare rowR (fun _ _ => rfl) rows_disj rows_cover X

theorem rows_join (b : Memref sig .tc .vmem S512x512 e) (w : Dev nD → S64x512.Idx → Elt F e) :
    (bigSep Finset.univ fun j : Dev nD => owns (c : Thread nD τ) (b.slice (rowR j) (fun _ => rfl)) fullShare (w j))
      ⊢ (owns (c : Thread nD τ) b fullShare (glue w) : sProp 𝕄) := by
  refine (Entails.of_eq (bigSep_congr fun j _ => ?_)).trans
    (owns_of_rects (c : Thread nD τ) b fullShare rowR (fun _ _ => rfl) rows_disj rows_cover (glue w))
  rw [show (fun i => glue w ((rowR j).emb i)) = w j from funext fun i => glue_emb w j i]

theorem slot_some (b : Memref sig .tc .vmem S8x64x512 .bf16) (j : Dev nD) (X : S1x64x512.Idx → Elt F .bf16) :
    (owns (c : Thread nD τ) (b.slice (slotR j) (fun _ => rfl)) fullShare X : sProp 𝕄)
      ⊢ iprop(∃ X : Blk F, owns (c : Thread nD τ) ((b.slice (slotR j) (fun _ => rfl)).squeeze S64x512 squeezes_S1x64x512_S64x512) fullShare X) := by
  have h : X = up (shapeCast S64x512 X squeezes_S1x64x512_S64x512.numel_eq) := by
    funext i
    unfold up
    rw [shapeCast, shapeCast, Shape.reshapeEquiv_reshapeEquiv, Shape.reshapeEquiv_self]
  rw [h]
  iintro H
  iexists (shapeCast S64x512 X squeezes_S1x64x512_S64x512.numel_eq)
  iapply (Entails.of_eq (slot_up c b j fullShare _).symm) $$ H

theorem slots_split (b : Memref sig .tc .vmem S8x64x512 .bf16) (X : S8x64x512.Idx → Elt F .bf16) :
    (owns (c : Thread nD τ) b fullShare X : sProp 𝕄)
      ⊢ bigSep Finset.univ fun j : Dev nD => iprop(∃ X : Blk F, owns (c : Thread nD τ) ((b.slice (slotR j) (fun _ => rfl)).squeeze S64x512 squeezes_S1x64x512_S64x512) fullShare X) := by
  refine (owns_rects (c : Thread nD τ) b fullShare slotR (fun _ _ => rfl) slots_disj slots_cover X).trans (bigSep_mono fun j _ => slot_some b j _)

theorem slots_join (b : Memref sig .tc .vmem S8x64x512 .bf16) (w : Dev nD → Blk F) :
    (bigSep Finset.univ fun j : Dev nD => owns (c : Thread nD τ) ((b.slice (slotR j) (fun _ => rfl)).squeeze S64x512 squeezes_S1x64x512_S64x512) fullShare (w j))
      ⊢ (iprop(∃ X, owns (c : Thread nD τ) b fullShare X) : sProp 𝕄) := by
  haveI : Nonempty (Elt F .bf16) := (inferInstance : ∀ e, Nonempty (Elt F e)) _
  obtain ⟨X, hX⟩ := exists_glue slotR slots_disj (fun j => up (w j))
  iintro H
  iexists X
  iapply (owns_of_rects (c : Thread nD τ) b fullShare slotR (fun _ _ => rfl) slots_disj slots_cover X)
  iapply (Entails.of_eq (bigSep_congr fun j _ => ?_)) $$ H
  rw [show (fun i => X ((slotR j).emb i)) = up (w j) from funext fun i => hX j i]
  exact slot_up c b j fullShare (w j)

theorem halves_split (X : S512x512.Idx → Elt F .bf16) :
    (owns (c : Thread nD τ) (Memref.whole cc0_scratch0) fullShare X : sProp 𝕄)
      ⊢ iprop((∃ Y, owns (c : Thread nD τ) (hM 0) fullShare Y) ∗ (∃ Y, owns (c : Thread nD τ) (hM 1) fullShare Y)) := by
  refine (owns_rects (c : Thread nD τ) (Memref.whole cc0_scratch0) fullShare halfR (fun _ _ => rfl) halves_disj halves_cover X).trans ?_
  rw [bigSep_fin_two]
  refine BI.sep_mono ?_ ?_
  · exact BIClass.exists_intro (Φ := fun Y => owns (c : Thread nD τ) (hM 0) fullShare Y) _
  · exact BIClass.exists_intro (Φ := fun Y => owns (c : Thread nD τ) (hM 1) fullShare Y) _

theorem quarter_emb (j : Dev nD) (i : S64x512.Idx) : (halfR (halfOf j)).emb ((quarterR j).emb i) = (rowR j).emb i := by
  refine funext fun a => Fin.ext ?_
  match a with
  | 0 =>
    show 256 * (j.val / 4) + 1 * (64 * (j.val % 4) + 1 * (i 0).val) = 64 * j.val + 1 * (i 0).val
    omega
  | 1 =>
    show 0 + 1 * (0 + 1 * (i 1).val) = 0 + 1 * (i 1).val
    omega

theorem quarter_owns (j : Dev nD) (X : Blk F) :
    (owns (c : Thread nD τ) ((hM (halfOf j)).slice (quarterR j) (fun _ => rfl)) fullShare X : sProp 𝕄) = owns (c : Thread nD τ) (pM j) fullShare X := by
  have he : ((hM (halfOf j)).slice (quarterR j) (fun _ => rfl)).view.emb = (pM j).view.emb :=
    Function.Embedding.ext fun i => congrArg (Memref.whole cc0_scratch0).view.emb (quarter_emb j i)
  have hs : ((hM (halfOf j)).slice (quarterR j) (fun _ => rfl)).view.set = (pM j).view.set := congrArg (Finset.map · Finset.univ) he
  have hr : ∀ g, ((hM (halfOf j)).slice (quarterR j) (fun _ => rfl)).view.read (Elt F) g = (pM j).view.read (Elt F) g := fun g =>
    funext fun i => congrArg (fun k => (Memref.whole cc0_scratch0).view.read (Elt F) g k) (quarter_emb j i)
  unfold owns
  rw [hs]
  exact congrArg _ (funext fun g => by rw [hr g])

theorem half_split (h : Fin 2) (X : S256x512.Idx → Elt F .bf16) :
    (owns (c : Thread nD τ) (hM h) fullShare X : sProp 𝕄)
      ⊢ bigSep (grp h) fun j => owns (c : Thread nD τ) (pM j) fullShare (fun i => X ((quarterR j).emb i)) := by
  refine (owns_rects (c : Thread nD τ) (hM h) fullShare (fun t : {j : Dev nD // halfOf j = h} => quarterR t.1) (fun _ _ => rfl)
    (quarters_disj h) (quarters_cover h) X).trans ?_
  unfold grp
  rw [← bigSep_subtype (fun j : Dev nD => halfOf j = h) (fun j => owns (c : Thread nD τ) (pM j) fullShare (fun i => X ((quarterR j).emb i)))]
  refine bigSep_mono fun t _ => ?_
  obtain ⟨j, rfl⟩ := t
  exact Entails.of_eq (quarter_owns j _)

end Buffers

end Cert.Proof

end
-- ==== Proof.Exchange.lean ====
/-
# The exchange

The kernel's parts that store the partial product, send its chunks and the sums, add the chunks that land and write the
sums that land.
-/
module

public import proofs.«01_k».proof.Proof.Pieces

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The guards: every exchange passes the device itself over -/

theorem cond1 : ∀ c : Dev nD, k0_cond1 c = 1#1 ↔ (0 : Dev nD) ≠ c := by decide +kernel
theorem cond2 : ∀ c : Dev nD, k0_cond2 c = 1#1 ↔ (1 : Dev nD) ≠ c := by decide +kernel
theorem cond3 : ∀ c : Dev nD, k0_cond3 c = 1#1 ↔ (2 : Dev nD) ≠ c := by decide +kernel
theorem cond4 : ∀ c : Dev nD, k0_cond4 c = 1#1 ↔ (3 : Dev nD) ≠ c := by decide +kernel
theorem cond5 : ∀ c : Dev nD, k0_cond5 c = 1#1 ↔ (4 : Dev nD) ≠ c := by decide +kernel
theorem cond6 : ∀ c : Dev nD, k0_cond6 c = 1#1 ↔ (5 : Dev nD) ≠ c := by decide +kernel
theorem cond7 : ∀ c : Dev nD, k0_cond7 c = 1#1 ↔ (6 : Dev nD) ≠ c := by decide +kernel
theorem cond8 : ∀ c : Dev nD, k0_cond8 c = 1#1 ↔ (7 : Dev nD) ≠ c := by decide +kernel
theorem cond17 : ∀ c : Dev nD, k0_cond17 c = 1#1 ↔ (0 : Dev nD) ≠ c := by decide +kernel
theorem cond18 : ∀ c : Dev nD, k0_cond18 c = 1#1 ↔ (1 : Dev nD) ≠ c := by decide +kernel
theorem cond19 : ∀ c : Dev nD, k0_cond19 c = 1#1 ↔ (2 : Dev nD) ≠ c := by decide +kernel
theorem cond20 : ∀ c : Dev nD, k0_cond20 c = 1#1 ↔ (3 : Dev nD) ≠ c := by decide +kernel
theorem cond21 : ∀ c : Dev nD, k0_cond21 c = 1#1 ↔ (4 : Dev nD) ≠ c := by decide +kernel
theorem cond22 : ∀ c : Dev nD, k0_cond22 c = 1#1 ↔ (5 : Dev nD) ≠ c := by decide +kernel
theorem cond23 : ∀ c : Dev nD, k0_cond23 c = 1#1 ↔ (6 : Dev nD) ≠ c := by decide +kernel
theorem cond24 : ∀ c : Dev nD, k0_cond24 c = 1#1 ↔ (7 : Dev nD) ≠ c := by decide +kernel
theorem cond25 : ∀ c : Dev nD, k0_cond25 c = 1#1 ↔ (0 : Dev nD) ≠ c := by decide +kernel
theorem cond26 : ∀ c : Dev nD, k0_cond26 c = 1#1 ↔ (1 : Dev nD) ≠ c := by decide +kernel
theorem cond27 : ∀ c : Dev nD, k0_cond27 c = 1#1 ↔ (2 : Dev nD) ≠ c := by decide +kernel
theorem cond28 : ∀ c : Dev nD, k0_cond28 c = 1#1 ↔ (3 : Dev nD) ≠ c := by decide +kernel
theorem cond29 : ∀ c : Dev nD, k0_cond29 c = 1#1 ↔ (4 : Dev nD) ≠ c := by decide +kernel
theorem cond30 : ∀ c : Dev nD, k0_cond30 c = 1#1 ↔ (5 : Dev nD) ≠ c := by decide +kernel
theorem cond31 : ∀ c : Dev nD, k0_cond31 c = 1#1 ↔ (6 : Dev nD) ≠ c := by decide +kernel
theorem cond32 : ∀ c : Dev nD, k0_cond32 c = 1#1 ↔ (7 : Dev nD) ≠ c := by decide +kernel
theorem cond41 : ∀ c : Dev nD, k0_cond41 c = 1#1 ↔ (0 : Dev nD) ≠ c := by decide +kernel
theorem cond42 : ∀ c : Dev nD, k0_cond42 c = 1#1 ↔ (1 : Dev nD) ≠ c := by decide +kernel
theorem cond43 : ∀ c : Dev nD, k0_cond43 c = 1#1 ↔ (2 : Dev nD) ≠ c := by decide +kernel
theorem cond44 : ∀ c : Dev nD, k0_cond44 c = 1#1 ↔ (3 : Dev nD) ≠ c := by decide +kernel
theorem cond45 : ∀ c : Dev nD, k0_cond45 c = 1#1 ↔ (4 : Dev nD) ≠ c := by decide +kernel
theorem cond46 : ∀ c : Dev nD, k0_cond46 c = 1#1 ↔ (5 : Dev nD) ≠ c := by decide +kernel
theorem cond47 : ∀ c : Dev nD, k0_cond47 c = 1#1 ↔ (6 : Dev nD) ≠ c := by decide +kernel
theorem cond48 : ∀ c : Dev nD, k0_cond48 c = 1#1 ↔ (7 : Dev nD) ≠ c := by decide +kernel

theorem cond_word : ∀ c j : Dev nD, Scalar.cmpi .ne (Scalar.extui (Scalar.cmpi .ne (devW c) (BitVec.ofNat 32 j.val))) 0#32 = 1#1 ↔ j ≠ c := by
  decide +kernel

section Slices

/-- Going on from what is held, gathered in one assertion. -/
theorem carry_on {α : Type} {c : Dev nD} {A : sProp 𝕄} {p : Prog (TpuEff nD τ sig (Elt F) Λ₀ .tc) α} {Q : α → sProp 𝕄}
    (h : A ⊢ Runs c p Q) : A ⊢ Runs c p Q := h

variable {α : Type} {c : Dev nD} {s : Shape} {e : EltTy}

theorem slice_load {m : Memref sig .tc .vmem s e} {r : Rect s} {hr : ∀ a, r.stride a = 1} {q : PosShare TreeShare}
    {X : r.shape.Idx → Elt F e} {hl : m.view.LoadsAt r.toLoadRect}
    {f : (r.shape.Idx → Elt F e) → Prog (TpuEff nD τ sig (Elt F) Λ₀ .tc) α} {Q : α → sProp 𝕄} :
    (owns (c : Thread nD τ) (m.slice r hr) q X : sProp 𝕄)
      ⊢ iprop((owns (c : Thread nD τ) (m.slice r hr) q X -∗ Runs c (f X) Q) -∗ Runs c (Prog.lift (.load m r.toLoadRect hl) >>= f) Q) := by
  iintro H HW
  iapply (load_slice (hr := hr) (q := q) (X := X) (hl := hl) (f := f)
    (R := iprop(owns (c : Thread nD τ) (m.slice r hr) q X -∗ Runs c (f X) Q)) ?_)
  · iintro ⟨H, HW⟩
    iapply HW; iexact H
  · isplitl [H]
    · iexact H
    · iexact HW

theorem slice_store {m : Memref sig .tc .vmem s e} {r : Rect s} {hr : ∀ a, r.stride a = 1}
    {X : r.shape.Idx → Elt F e} {w : r.shape.Idx → Elt F e} {hx : (m.access r).Stores Finset.univ}
    {hm : (Finset.univ : Finset r.shape.Idx) = Finset.univ ∨ ∀ a, r.stride a = 1}
    {f : PUnit → Prog (TpuEff nD τ sig (Elt F) Λ₀ .tc) α} {Q : α → sProp 𝕄} :
    (owns (c : Thread nD τ) (m.slice r hr) fullShare X : sProp 𝕄)
      ⊢ iprop((owns (c : Thread nD τ) (m.slice r hr) fullShare w -∗ Runs c (f ⟨⟩) Q)
        -∗ Runs c (Prog.lift (.store m r w Finset.univ hx hm) >>= f) Q) := by
  iintro H HW
  iapply (store_slice (hr := hr) (X := X) (w := w) (hx := hx) (hm := hm) (f := f)
    (R := iprop(owns (c : Thread nD τ) (m.slice r hr) fullShare w -∗ Runs c (f ⟨⟩) Q)) ?_)
  · iintro ⟨H, HW⟩
    iapply HW; iexact H
  · isplitl [H]
    · iexact H
    · iexact HW

end Slices

section Exchange

variable (I : Dev nD → Ins F) (K : GSem nD τ sig → ℕ) {c : Dev nD}

/-- What the send to `j` needs beside its chunk. -/
def sendAux (k k' : Fin 4) (M : Memref sig .tc .vmem S64x512 .bf16) (c j : Dev nD) : sProp 𝕄 :=
  if j = c then iprop(emp)
  else iprop((∃ X, owns (j : Thread nD τ) M fullShare X)
    ∗ (dutyTok ER (xCell k c j) 0 j ∗ reached ER (xCell k c j) 0) ∗ (dutyTok ER (xCell k' j c) 0 c ∗ reached ER (xCell k' j c) 0))

theorem send_ready (k k' : Fin 4) (M : Memref sig .tc .vmem S64x512 .bf16) (j : Dev nD) :
    iprop(xPay (chV I) (rbV I) k c j ∗ sendAux (F := F) k k' M c j) ⊢ sendPre (chV I) (rbV I) k k' M c j := by
  unfold sendAux sendPre
  by_cases h : j = c
  · rw [if_pos h, if_pos h, h]
    iintro ⟨H, -⟩; iexact H
  · rw [if_neg h, if_neg h]

/-- A half of the partial product, ready for its chunks to go. -/
theorem half_ready (h : Fin 2) :
    iprop(owns (c : Thread nD τ) (hM h) fullShare (halfV (I c) h) ∗ bigSep (grp h) (sendAux (F := F) 0 1 (rM c) c))
      ⊢ sweep (grp h) (sendPre (chV I) (rbV I) 0 1 (rM c) c) (sendPost (chV I) (rbV I) 0 c) (4 * h.val) := by
  rw [sweep_first (fun j hj => by
    have : j.val / 4 = h.val := congrArg Fin.val (Finset.mem_filter.mp hj).2
    omega)]
  refine (BI.sep_mono_l (half_split h _)).trans ?_
  refine (Entails.of_eq (bigSep_sep _ _ _).symm).trans (bigSep_mono fun j hj => ?_)
  have e : halfOf j = h := (Finset.mem_filter.mp hj).2
  subst e
  exact send_ready I 0 1 (rM c) j

/-- A chunk sent. -/
theorem sendA {α : Type} {f : PUnit → Prog (TpuEff nD τ sig (Elt F) Λ₀ .tc) α} {S : Finset (Dev nD)} {O : CellTallies nD τ sig Unit}
    {n : ℕ} {j d : Dev nD} (hn : j.val = n) (hS : j ∈ S) (hj : j ≠ c) (hd : d = j) {src' dst' : Memref sig .tc .vmem S64x512 .bf16}
    (es : src' = pM j) (ed : dst' = rM c) {s1 s2 : DmaSem sig} (e1 : s1 = xs 0 j) (e2 : s2 = xs 1 c)
    {hsc : (dst' : Memref sig (Dev.tc d : Thread nD τ).2.kind .vmem S64x512 .bf16).view.ref.isScScratch = false}
    {hw1 : src'.view.WordExact} {hw2 : dst'.view.WordExact}
    {hsem : DmaTarget.Typed .vmem (.dma s2) (.remote (Dev.tc d : Thread nD τ) (dst' : Memref sig (Dev.tc d : Thread nD τ).2.kind .vmem S64x512 .bf16) (.dma s1) hsc)}
    {Q : α → sProp 𝕄} {R : sProp 𝕄}
    (hk : iprop(ctx (chV I) (rbV I) K ∗ sending (chV I) (rbV I) 0 1 (rM c) c S O (n + 1) ∗ R) ⊢ Runs c (f ⟨⟩) Q) :
    iprop(ctx (chV I) (rbV I) K ∗ sending (chV I) (rbV I) 0 1 (rM c) c S O n ∗ R)
      ⊢ Runs c (Prog.lift (.enqueueDma src' (.remote (Dev.tc d : Thread nD τ) dst' (.dma s1) hsc) (.dma s2) hw1 hw2 hsem) >>= f) Q :=
  send_taken (chV I) (rbV I) K (k := 0) (k' := 1) (M := rM c) (S := S) (O := O) (R := R) (src := pM j) (q := fullShare) (V := chV I c j) hn hS hj hd rfl rfl rfl es ed e1 e2 hk

/-- The rounded sum sent. -/
theorem sendC {α : Type} {f : PUnit → Prog (TpuEff nD τ sig (Elt F) Λ₀ .tc) α} {O : CellTallies nD τ sig Unit}
    {n : ℕ} {j d : Dev nD} (hn : j.val = n) (hj : j ≠ c) (hd : d = j) {dst' : Memref sig .tc .vmem S64x512 .bf16}
    (ed : dst' = aM c) {s1 s2 : DmaSem sig} (e1 : s1 = xs 2 j) (e2 : s2 = xs 3 c)
    {hsc : (dst' : Memref sig (Dev.tc d : Thread nD τ).2.kind .vmem S64x512 .bf16).view.ref.isScScratch = false}
    {hw1 : (dM : Memref sig .tc .vmem S64x512 .bf16).view.WordExact} {hw2 : dst'.view.WordExact}
    {hsem : DmaTarget.Typed .vmem (.dma s2) (.remote (Dev.tc d : Thread nD τ) (dst' : Memref sig (Dev.tc d : Thread nD τ).2.kind .vmem S64x512 .bf16) (.dma s1) hsc)}
    {Q : α → sProp 𝕄} {R : sProp 𝕄}
    (hk : iprop(ctx (chV I) (rbV I) K ∗ sending (chV I) (rbV I) 2 3 (aM c) c Finset.univ O (n + 1) ∗ R) ⊢ Runs c (f ⟨⟩) Q) :
    iprop(ctx (chV I) (rbV I) K ∗ sending (chV I) (rbV I) 2 3 (aM c) c Finset.univ O n ∗ R)
      ⊢ Runs c (Prog.lift (.enqueueDma dM (.remote (Dev.tc d : Thread nD τ) dst' (.dma s1) hsc) (.dma s2) hw1 hw2 hsem) >>= f) Q :=
  send_taken (chV I) (rbV I) K (k := 2) (k' := 3) (M := aM c) (S := Finset.univ) (O := O) (R := R) (src := dM) (q := shr j) (V := rbV I c) hn (Finset.mem_univ j) hj hd rfl rfl rfl rfl ed e1 e2 hk

/-- A wait is in order when nothing is owed. -/
theorem mayWait_none (c : Dev nD) (k : Fin 4) (j : Dev nD) : (levAts L lv : sProp 𝕄) ⊢ MayWait (c : Thread nD τ) (.dma (xs k j)) () 0 :=
  mayWait_of c _ _ (lv (xCell k c j) ()) le_rfl fun g u h => absurd h (lt_irrefl 0)

/-- A landed chunk added. -/
theorem recvB {α : Type} {f : PUnit → Prog (TpuEff nD τ sig (Elt F) Λ₀ .tc) α} {T : Finset (Dev nD)} {n : ℕ} {j : Dev nD} (hn : j.val = n) (hj : j ≠ c)
    {sm : DmaSem sig} (es : sm = xs 1 j) {src dst : Memref sig .tc .vmem S64x512 .bf16} {hw1 : src.view.WordExact}
    {hw2 : dst.view.WordExact} (hN : dst.view.dmaCredit = N)
    {o : Fin 3 → ℕ} {inb : ∀ a, o a + S1x64x512.size a ≤ S8x64x512.size a} (ho : o = ![j.val, 0, 0])
    {i1 : ∀ a, (![0, 0] : Fin 2 → ℕ) a + S64x512.size a ≤ S64x512.size a} {i2 : ∀ a, (![0, 0] : Fin 2 → ℕ) a + S64x512.size a ≤ S64x512.size a}
    {i3 : ∀ a, (![0, 0] : Fin 2 → ℕ) a + S64x512.size a ≤ S64x512.size a}
    {l1 : sM.view.LoadsAt (Rect.unit (s := S64x512) ![0, 0] S64x512.size i1).toLoadRect}
    {l2 : (Memref.whole cc0_scratch1).view.LoadsAt (Rect.unit (s := S8x64x512) o S1x64x512.size inb).toLoadRect}
    {l3 : sM.view.LoadsAt (Rect.unit (s := S64x512) ![0, 0] S64x512.size i2).toLoadRect}
    {hx : (sM.access (Rect.unit (s := S64x512) ![0, 0] S64x512.size i3)).Stores Finset.univ}
    {hm : (Finset.univ : Finset S64x512.Idx) = Finset.univ ∨ ∀ a, (Rect.unit (s := S64x512) ![0, 0] S64x512.size i3).stride a = 1}
    {g : (S64x512.Idx → Elt F .f32) → (S1x64x512.Idx → Elt F .bf16) → S64x512.Idx → Elt F .f32} (hg : g = k0_pay17 (F := F))
    {Q : α → sProp 𝕄} {R : sProp 𝕄}
    (hk : iprop(ctx (chV I) (rbV I) K ∗ waiting (chV I) (rbV I) 1 c iprop(emp) (oweC c T) (n + 1) ∗ owns (c : Thread nD τ) sM fullShare (accV I c (n + 1)) ∗ R) ⊢ Runs c (f ⟨⟩) Q) :
    iprop(ctx (chV I) (rbV I) K ∗ waiting (chV I) (rbV I) 1 c iprop(emp) (oweC c T) n ∗ owns (c : Thread nD τ) sM fullShare (accV I c n) ∗ R)
      ⊢ Runs c (Prog.lift (.waitDma2 sm src dst hw1 hw2) >>= fun _ =>
          Prog.lift (.load sM (Rect.unit (s := S64x512) ![0, 0] S64x512.size i1).toLoadRect l1) >>= fun x =>
          Prog.lift (.load (Memref.whole cc0_scratch1) (Rect.unit (s := S8x64x512) o S1x64x512.size inb).toLoadRect l2) >>= fun y =>
          Prog.lift (.load sM (Rect.unit (s := S64x512) ![0, 0] S64x512.size i2).toLoadRect l3) >>= fun _ =>
          Prog.lift (.store sM (Rect.unit (s := S64x512) ![0, 0] S64x512.size i3) (g x y) Finset.univ hx hm) >>= f) Q := by
  subst hg
  rw [accV_peer I hn hj] at hk
  exact recv_taken (chV I) (rbV I) K hn hj es hN (mayWait_chunk c j T) ho zero2 zero2 zero2 hk

theorem recvB_skip {T : Finset (Dev nD)} {n : ℕ} {j : Dev nD} (hn : j.val = n) (h : j = c) {R : sProp 𝕄} :
    iprop(ctx (chV I) (rbV I) K ∗ waiting (chV I) (rbV I) 1 c iprop(emp) (oweC c T) n ∗ owns (c : Thread nD τ) sM fullShare (accV I c n) ∗ R)
      ⊢ iprop(ctx (chV I) (rbV I) K ∗ waiting (chV I) (rbV I) 1 c iprop(emp) (oweC c T) (n + 1) ∗ owns (c : Thread nD τ) sM fullShare (accV I c (n + 1)) ∗ R) := by
  rw [accV_self I hn h]
  exact wait_skip (chV I) (rbV I) K hn h

/-- The output's rows while the sums come in. -/
def rowsAt (c : Dev nD) (n : ℕ) : sProp 𝕄 :=
  sweep (peers c) (fun j => iprop(∃ X, owns (c : Thread nD τ) (oM j) fullShare X)) (fun j => owns (c : Thread nD τ) (oM j) fullShare (outRow I c j)) n

/-- A landed sum written out. -/
theorem gatherE {α : Type} {f : PUnit → Prog (TpuEff nD τ sig (Elt F) Λ₀ .tc) α} {n : ℕ} {j : Dev nD} (hn : j.val = n) (hj : j ≠ c)
    {sm : DmaSem sig} (es : sm = xs 3 j) {src dst : Memref sig .tc .vmem S64x512 .bf16} {hw1 : src.view.WordExact}
    {hw2 : dst.view.WordExact} (hN : dst.view.dmaCredit = N)
    {o : Fin 3 → ℕ} {inb : ∀ a, o a + S1x64x512.size a ≤ S8x64x512.size a} (ho : o = ![j.val, 0, 0])
    {o1 o2 : Fin 2 → ℕ} {i1 : ∀ a, o1 a + S64x512.size a ≤ S512x512.size a} {i2 : ∀ a, o2 a + S64x512.size a ≤ S512x512.size a}
    (h1 : o1 = ![64 * j.val, 0]) (h2 : o2 = ![64 * j.val, 0])
    {l1 : (Memref.whole cc0_scratch2).view.LoadsAt (Rect.unit (s := S8x64x512) o S1x64x512.size inb).toLoadRect}
    {l2 : (Memref.whole cc0_stg5_0).view.LoadsAt (Rect.unit (s := S512x512) o1 S64x512.size i1).toLoadRect}
    {hx : ((Memref.whole cc0_stg5_0).access (Rect.unit (s := S512x512) o2 S64x512.size i2)).Stores Finset.univ}
    {hm : (Finset.univ : Finset S64x512.Idx) = Finset.univ ∨ ∀ a, (Rect.unit (s := S512x512) o2 S64x512.size i2).stride a = 1}
    {g : (S1x64x512.Idx → Elt F .bf16) → S64x512.Idx → Elt F .f32} (hg : g = k0_pay26 (F := F))
    {Q : α → sProp 𝕄} {R : sProp 𝕄}
    (hk : iprop(ctx (chV I) (rbV I) K ∗ waiting (chV I) (rbV I) 3 c iprop(emp) 0 (n + 1) ∗ rowsAt I c (n + 1) ∗ R) ⊢ Runs c (f ⟨⟩) Q) :
    iprop(ctx (chV I) (rbV I) K ∗ waiting (chV I) (rbV I) 3 c iprop(emp) 0 n ∗ rowsAt I c n ∗ R)
      ⊢ Runs c (Prog.lift (.waitDma2 sm src dst hw1 hw2) >>= fun _ =>
          Prog.lift (.load (Memref.whole cc0_scratch2) (Rect.unit (s := S8x64x512) o S1x64x512.size inb).toLoadRect l1) >>= fun y =>
          Prog.lift (.load (Memref.whole cc0_stg5_0) (Rect.unit (s := S512x512) o1 S64x512.size i1).toLoadRect l2) >>= fun _ =>
          Prog.lift (.store (Memref.whole cc0_stg5_0) (Rect.unit (s := S512x512) o2 S64x512.size i2) (g y) Finset.univ hx hm) >>= f) Q := by
  subst hg
  exact gather_taken (chV I) (rbV I) K hn hj es hN (mayWait_none c 3 j) ho h1 h2 (w := outRow I c) (if_neg hj) hk

theorem gatherE_skip {n : ℕ} {j : Dev nD} (hn : j.val = n) (h : j = c) {R : sProp 𝕄} :
    iprop(ctx (chV I) (rbV I) K ∗ waiting (chV I) (rbV I) 3 c iprop(emp) 0 n ∗ rowsAt I c n ∗ R)
      ⊢ iprop(ctx (chV I) (rbV I) K ∗ waiting (chV I) (rbV I) 3 c iprop(emp) 0 (n + 1) ∗ rowsAt I c (n + 1) ∗ R) :=
  gather_skip (chV I) (rbV I) K hn h

/-- The return of a source awaited. -/
theorem drain {α : Type} {f : PUnit → Prog (TpuEff nD τ sig (Elt F) Λ₀ .tc) α} {k : Fin 4} {Z : sProp 𝕄} {n : ℕ} {j : Dev nD} (hn : j.val = n) (hj : j ≠ c)
    {sm : DmaSem sig} (es : sm = xs k j) {src dst : Memref sig .tc .vmem S64x512 .bf16} {hw1 : src.view.WordExact}
    {hw2 : dst.view.WordExact} (hN : dst.view.dmaCredit = N) {Q : α → sProp 𝕄} {R : sProp 𝕄}
    (hk : iprop(ctx (chV I) (rbV I) K ∗ waiting (chV I) (rbV I) k c Z 0 (n + 1) ∗ R) ⊢ Runs c (f ⟨⟩) Q) :
    iprop(ctx (chV I) (rbV I) K ∗ waiting (chV I) (rbV I) k c Z 0 n ∗ R) ⊢ Runs c (Prog.lift (.waitDma2 sm src dst hw1 hw2) >>= f) Q :=
  wait_taken (chV I) (rbV I) K hn hj es hN (mayWait_none c k j) hk

/-- A pass of sends over, what it owed is paid. -/
theorem sends_done {n : ℕ} (hn : n = 8) {k k' : Fin 4} {M : Memref sig .tc .vmem S64x512 .bf16} {S : Finset (Dev nD)} {O : CellTallies nD τ sig Unit} :
    sending (chV I) (rbV I) k k' M c S O n ⊢ iprop(bigSep S (sendPost (chV I) (rbV I) k c) ∗ debt c O) := by
  subst hn
  unfold sending
  rw [todo_eight, owe_empty, add_zero, sweep_last (fun j _ => by have : j.val < 8 := j.isLt; omega)]

/-- A pass of waits over. -/
theorem waits_done {n : ℕ} (hn : n = 8) {k : Fin 4} {Z : sProp 𝕄} {O : CellTallies nD τ sig Unit} :
    waiting (chV I) (rbV I) k c Z O n ⊢ iprop(bigSep Finset.univ (waitPost (chV I) (rbV I) k c Z) ∗ debt c O) := by
  subst hn
  unfold waiting
  rw [sweep_last (fun j _ => by have : j.val < 8 := j.isLt; omega)]

/-- Row `k` of `c`'s cells at their starts. -/
def atRow (k : Fin 4) (c : Dev nD) : sProp 𝕄 := bigSep Finset.univ fun j => atPos ER (xCell k c j) 0 ∅ 0

/-- The pass that takes sources back follows the pass that sent them. -/
theorem drain_ready {k : Fin 4} :
    iprop(bigSep Finset.univ (sendPost (chV I) (rbV I) k c) ∗ atRow (F := F) k c ∗ debt c 0)
      ⊢ waiting (chV I) (rbV I) k c (xPay (chV I) (rbV I) k c c) 0 0 := by
  unfold waiting atRow
  rw [sweep_first (fun j _ => Nat.zero_le _)]
  iintro ⟨Hs, Ha, HO⟩
  isplitr [HO]
  · iapply (show iprop((bigSep Finset.univ fun j => (atPos ER (xCell k c j) 0 ∅ 0 : sProp 𝕄)) ∗ bigSep Finset.univ (sendPost (chV I) (rbV I) k c)) ⊢ _
      from (Entails.of_eq (bigSep_sep _ _ _).symm)) $$ [Hs Ha]
    isplitl [Ha]
    · iexact Ha
    · iexact Hs
  · iexact HO

end Exchange

end Cert.Proof

end
-- ==== Proof.Ready.lean ====
/-
# Before and after the exchange

What each device brings to the kernel's exchange, sorted for its steps, and what it has when the steps are over.
-/
module

public import proofs.«01_k».proof.Proof.Exchange

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Rights -/

/-- All barrier cells and `c`'s own transfer cells stand at their first round. -/
def marks (c : Dev nD) : sProp 𝕄 :=
  iprop((bigSep Finset.univ fun t : Dev nD => reached ER (barCell t) 0)
    ∗ bigSep Finset.univ fun p : Fin 4 × Dev nD => reached ER (xCell p.1 c p.2) 0)
instance marks_persistent (c : Dev nD) : BI.Persistent (marks c : sProp 𝕄) := by unfold marks; infer_instance
theorem marks_bar (c t : Dev nD) : (marks c : sProp 𝕄) ⊢ reached ER (barCell t) 0 :=
  (show (marks c : sProp 𝕄) ⊢ _ from by unfold marks; exact sep_elim_left).trans (bigSep_elim (i := t) (Finset.mem_univ _))
theorem marks_x (k : Fin 4) (c j : Dev nD) : (marks c : sProp 𝕄) ⊢ reached ER (xCell k c j) 0 :=
  (show (marks c : sProp 𝕄) ⊢ _ from by unfold marks; exact sep_elim_right).trans
    (bigSep_elim (i := ((k, j) : Fin 4 × Dev nD)) (Φ := fun p : Fin 4 × Dev nD => (reached ER (xCell p.1 c p.2) 0 : sProp 𝕄)) (Finset.mem_univ _))

/-- The rights `c` uses to pay the cells of the chunks' exchange and of the sums' exchange with `t`. -/
def pairTok (k k' : Fin 4) (c t : Dev nD) : sProp 𝕄 := iprop(dutyTok ER (xCell k c t) 0 t ∗ dutyTok ER (xCell k' t c) 0 c)
/-- All that `c` pays to `t` with. -/
def peerTok (c t : Dev nD) : sProp 𝕄 := iprop(dutyTok ER (barCell t) 0 c ∗ pairTok (F := F) 0 1 c t ∗ pairTok (F := F) 2 3 c t)
/-- The landing slots `c` keeps for `t`. -/
def slots (c t : Dev nD) : sProp 𝕄 := iprop((∃ X : Blk F, own₁ c (rM t) X) ∗ (∃ X : Blk F, own₁ c (aM t) X))

theorem peers_split (c : Dev nD) (Φ : Dev nD → sProp 𝕄) : bigSep Finset.univ Φ = iprop(Φ c ∗ bigSep (peers c) Φ) := bigSep_univ_split c

section Prepare

variable {c : Dev nD}

/-- The slots go out with the signals. -/
theorem signals_ready :
    iprop(marks c ∗ bigSep (peers c) (peerTok (F := F) c) ∗ bigSep (peers c) (slots (F := F) c))
      ⊢ iprop(bigSep (peers c) (sigRes (F := F) c) ∗ bigSep (peers c) (pairTok (F := F) 0 1 c) ∗ bigSep (peers c) (pairTok (F := F) 2 3 c)) := by
  refine BIBase.Entails.trans (Q := bigSep (peers c) fun t => iprop(sigRes (F := F) c t ∗ pairTok (F := F) 0 1 c t ∗ pairTok (F := F) 2 3 c t)) ?_ ?_
  · refine (BI.sep_mono_r (Entails.of_eq (bigSep_sep' _ _ _).symm)).trans (bigSep_with_persistent fun t _ => ?_)
    unfold peerTok slots sigRes barPay
    iintro ⟨#Hm, ⟨Hb, H1, H2⟩, Hr, Ha⟩
    isplitr [H1 H2]
    · isplitl [Hb]; · iexact Hb
      isplitl [Hr Ha]
      · isplitl [Hr]; · iexact Hr
        isplitl [Ha]; · iexact Ha
        isplitr
        · iapply (marks_x 1 c t); iexact Hm
        · iapply (marks_x 3 c t); iexact Hm
      · iapply (marks_bar c t); iexact Hm
    · isplitl [H1]; · iexact H1
      iexact H2
  · rw [bigSep_sep', bigSep_sep']

/-- With the peers' slots and the rights, the sends can be made. -/
theorem sends_ready :
    iprop(marks c ∗ (bigSep (peers c) (pairTok (F := F) 0 1 c) ∗ bigSep (peers c) (pairTok (F := F) 2 3 c)) ∗ bigSep (peers c) (fun e => barPay (F := F) c e))
      ⊢ iprop(bigSep Finset.univ (sendAux (F := F) 0 1 (rM c) c) ∗ bigSep Finset.univ (sendAux (F := F) 2 3 (aM c) c)) := by
  have hs : ∀ (k k' : Fin 4) (M : Memref sig .tc .vmem S64x512 .bf16), sendAux (F := F) k k' M c c = iprop(emp) := fun k k' M => if_pos rfl
  rw [peers_split c (sendAux (F := F) 0 1 (rM c) c), peers_split c (sendAux (F := F) 2 3 (aM c) c), hs, hs]
  refine BIBase.Entails.trans (Q := bigSep (peers c) fun t => iprop(sendAux (F := F) 0 1 (rM c) c t ∗ sendAux (F := F) 2 3 (aM c) c t)) ?_ ?_
  · rw [← bigSep_sep', ← bigSep_sep']
    refine bigSep_with_persistent fun t ht => ?_
    have h : t ≠ c := Finset.ne_of_mem_erase ht
    unfold sendAux pairTok barPay
    rw [if_neg h, if_neg h]
    iintro ⟨#Hm, ⟨⟨H0, H1⟩, H2, H3⟩, Hr, Ha, Hr1, Hr3⟩
    isplitl [H0 H1 Hr Hr1]
    · isplitl [Hr]; · iexact Hr
      isplitl [H0]
      · isplitl [H0]; · iexact H0
        iapply (marks_x 0 c t); iexact Hm
      · isplitl [H1]; · iexact H1
        iexact Hr1
    · isplitl [Ha]; · iexact Ha
      isplitl [H2]
      · isplitl [H2]; · iexact H2
        iapply (marks_x 2 c t); iexact Hm
      · isplitl [H3]; · iexact H3
        iexact Hr3
  · rw [bigSep_sep']
    iintro ⟨H0, H1⟩
    isplitl [H0]
    · isplitr; · iempintro
      iexact H0
    · isplitr; · iempintro
      iexact H1

/-- The chunks by halves. -/
theorem by_half (Φ : Dev nD → sProp 𝕄) : bigSep Finset.univ Φ = iprop(bigSep (grp 0) Φ ∗ bigSep (grp 1) Φ) := by
  rw [bigSep_filter_split Finset.univ (fun j : Dev nD => halfOf j = 0)]
  have e : (Finset.univ.filter fun j : Dev nD => ¬ halfOf j = 0) = grp 1 := by decide
  rw [e]
  rfl

/-- What is paid into `c`'s cells will be waited for. -/
theorem waits_ready (k : Fin 4) :
    iprop(atRow (F := F) k c ∗ bigSep (peers c) (fun t => cred (tallyAt (xCell k c t) () N)))
      ⊢ bigSep Finset.univ (waitPre (F := F) k c iprop(emp)) := by
  unfold atRow
  rw [peers_split c, peers_split c (waitPre (F := F) k c iprop(emp))]
  refine BIBase.Entails.trans (Q := iprop(atPos ER (xCell k c c) 0 ∅ 0 ∗ bigSep (peers c) fun t => iprop(atPos ER (xCell k c t) 0 ∅ 0 ∗ cred (tallyAt (xCell k c t) () N)))) ?_ ?_
  · rw [bigSep_sep']
    iintro ⟨⟨H0, H1⟩, H2⟩
    isplitl [H0]; · iexact H0
    isplitl [H1]; · iexact H1
    iexact H2
  · refine BI.sep_mono ?_ (bigSep_mono fun t ht => ?_)
    · unfold waitPre
      rw [if_pos rfl]
      show (atPos ER (xCell k c c) 0 ∅ 0 : sProp 𝕄) ⊢ iprop(atPos ER (xCell k c c) 0 ∅ 0 ∗ emp)
      iintro H
      isplitl [H]; · iexact H
      iempintro
    · unfold waitPre
      rw [if_neg (Finset.ne_of_mem_erase ht)]
      exact BI.Entails.refl _

end Prepare

/-! ## Closing -/

section Finish

variable (I : Dev nD → Ins F) (K : GSem nD τ sig → ℕ) {c : Dev nD}

/-- A row of cells over: the counters are at zero, and what was paid is left. -/
theorem row_over (k : Fin 4) (Z : sProp 𝕄) :
    iprop(ctx (chV I) (rbV I) K ∗ bigSep Finset.univ (waitPost (chV I) (rbV I) k c Z))
      ⊢ iprop(|={Set.univ}=> ((bigSep Finset.univ fun j => semVal (xCell k c j) 0) ∗ bigSep Finset.univ fun j => (if j = c then Z else xPay (chV I) (rbV I) k c j))) := by
  refine BIBase.Entails.trans (bigSep_with_persistent (Ψ := fun j => iprop(|={Set.univ}=> (semVal (xCell k c j) 0 ∗ (if j = c then Z else xPay (chV I) (rbV I) k c j)))) fun j _ => ?_) ?_
  · unfold ctx waitPost
    iintro ⟨⟨#HI, -⟩, Ha, HP⟩
    by_cases h : j = c
    · subst h
      rw [if_pos rfl]
      imod (close_self (chV I) (rbV I) K k j) $$ [Ha] with Hs
      · isplitr; · iexact HI
        iexact Ha
      imodintro
      isplitl [Hs]; · iexact Hs
      iexact HP
    · rw [if_neg h]
      imod (close_x (chV I) (rbV I) K k c j) $$ [Ha] with Hs
      · isplitr; · iexact HI
        iexact Ha
      imodintro
      isplitl [Hs]; · iexact Hs
      iexact HP
  · refine (bigSep_fupd _ _).trans ?_
    rw [bigSep_sep']

theorem at_self {V : Type _} (f : Dev nD → V) (j : Dev nD) : (if j = c then f c else f j) = f j := by
  by_cases h : j = c
  · rw [if_pos h, h]
  · exact if_neg h

/-- The partial product's chunks are back. -/
theorem chunks_back : (bigSep Finset.univ fun j => if j = c then xPay (chV I) (rbV I) 0 c c else xPay (chV I) (rbV I) 0 c j)
    ⊢ iprop(∃ X, owns (c : Thread nD τ) (Memref.whole cc0_scratch0) fullShare X) := by
  iintro H
  iexists (glue fun j => chV I c j)
  iapply (rows_join (c := c) (Memref.whole cc0_scratch0) fun j => chV I c j)
  iapply (Entails.of_eq (bigSep_congr (Φ := fun j => if j = c then xPay (chV I) (rbV I) 0 c c else xPay (chV I) (rbV I) 0 c j)
    (Ψ := fun j => owns (c : Thread nD τ) (pM j) fullShare (chV I c j)) fun j _ => at_self (xPay (chV I) (rbV I) 0 c) j)) $$ H

/-- The landing slots are back. -/
theorem slots_back (k : Fin 4) (b : Memref sig .tc .vmem S8x64x512 .bf16) (w : Dev nD → Blk F)
    (hk : ∀ j, xPay (chV I) (rbV I) k c j = owns (c : Thread nD τ) ((b.slice (slotR j) (fun _ => rfl)).squeeze S64x512 squeezes_S1x64x512_S64x512) fullShare (w j)) :
    iprop((∃ X : Blk F, owns (c : Thread nD τ) ((b.slice (slotR c) (fun _ => rfl)).squeeze S64x512 squeezes_S1x64x512_S64x512) fullShare X)
        ∗ bigSep Finset.univ fun j => if j = c then iprop(emp) else xPay (chV I) (rbV I) k c j)
      ⊢ iprop(∃ X, owns (c : Thread nD τ) b fullShare X) := by
  rw [peers_split c]
  iintro ⟨⟨%X, HX⟩, -, H⟩
  iapply (slots_join (c := c) b fun j => if j = c then X else w j)
  rw [peers_split c, if_pos rfl]
  isplitl [HX]; · iexact HX
  iapply (Entails.of_eq (bigSep_congr (Φ := fun j => if j = c then iprop(emp) else xPay (chV I) (rbV I) k c j)
    (Ψ := fun j => owns (c : Thread nD τ) ((b.slice (slotR j) (fun _ => rfl)).squeeze S64x512 squeezes_S1x64x512_S64x512) fullShare (if j = c then X else w j)) fun j hj => by
    rw [if_neg (Finset.ne_of_mem_erase hj), if_neg (Finset.ne_of_mem_erase hj), hk])) $$ H

/-- The rounded sum's shares are back. -/
theorem shares_back : (bigSep Finset.univ fun j => if j = c then xPay (chV I) (rbV I) 2 c c else xPay (chV I) (rbV I) 2 c j)
    ⊢ iprop(∃ X, owns (c : Thread nD τ) dM fullShare X) := by
  iintro H
  iexists (rbV I c)
  iapply (show (bigSep Finset.univ fun j : Dev nD => owns (c : Thread nD τ) dM (shr j) (rbV I c)) ⊢ owns (c : Thread nD τ) dM fullShare (rbV I c)
    from (ownsSat_pieces (c : Thread nD τ) dM (fun X => X = rbV I c) 8 (by decide) fullShare).2)
  iapply (Entails.of_eq (bigSep_congr (Φ := fun j => if j = c then xPay (chV I) (rbV I) 2 c c else xPay (chV I) (rbV I) 2 c j)
    (Ψ := fun j => owns (c : Thread nD τ) dM (shr j) (rbV I c)) fun j _ => at_self (xPay (chV I) (rbV I) 2 c) j)) $$ H

/-- The output is whole. -/
theorem output_whole :
    iprop(owns (c : Thread nD τ) (oM c) fullShare (outRow I c c) ∗ rowsAt I c 8)
      ⊢ owns (c : Thread nD τ) (Memref.whole cc0_stg5_0) fullShare (outV I c) := by
  unfold rowsAt outV
  rw [sweep_last (fun j _ => by have : j.val < 8 := j.isLt; omega)]
  refine BIBase.Entails.trans ?_ (rows_join (c := c) (Memref.whole cc0_stg5_0) fun j => outRow I c j)
  rw [peers_split c]

end Finish

end Cert.Proof

end
-- ==== Proof.Chunks.lean ====
/-
# Batch 0 goes out

The part that stores the first half of the partial product and sends its chunks.
-/
module

public import proofs.«01_k».proof.Proof.Exchange

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Run

variable (I : Dev nD → Ins F) (K : GSem nD τ sig → ℕ) {c : Dev nD}
set_option maxHeartbeats 4000000 in
/-- Batch 0's rows stored and their chunks sent. -/
theorem run6 {O : CellTallies nD τ sig Unit} {R : sProp 𝕄} :
    iprop((ctx (chV I) (rbV I) K ∗ debt c (O + oweA c (todo c 0))) ∗ insOf c (I c) ∗ (∃ X, owns (c : Thread nD τ) (hM 0) fullShare X)
        ∗ bigSep (grp 0) (sendAux (F := F) 0 1 (rM c) c) ∗ R)
      ⊢ Runs c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c (devW c) (h00 (I c)) (h01 (I c)) (h02 (I c)) (s03 (I c)))
      (fun r => iprop(⌜r = x1 (I c)⌝ ∗ (ctx (chV I) (rbV I) K ∗ sending (chV I) (rbV I) 0 1 (rM c) c (grp 0) O 4 ∗ insOf c (I c) ∗ R))) := by
  rw [k0_part6_eq_skeleton]
  unfold k0_part6_skel
  unfold insOf
  iintro ⟨⟨Hctx, HO⟩, ⟨Hx, Hq, Hk, Hv, Ho⟩, ⟨%X, Hh⟩, Haux, HR⟩
  iapply (load_use (X := (I c).v)) $$ Hv; iintro Hv
  iapply (load_all zero2 (X := (I c).o)) $$ Ho; iintro Ho
  iapply (slice_load (m := Memref.whole cc0_scratch0) (r := halfR 0) (hr := fun _ => rfl) (X := X)) $$ Hh; iintro Hh
  iapply (slice_store (m := Memref.whole cc0_scratch0) (r := halfR 0) (hr := fun _ => rfl) (X := X)) $$ Hh; iintro Hh
  ihave Hs := (half_ready I 0 (c := c)) $$ [Hh Haux]
  · isplitl [Hh]
    · iexact Hh
    · iexact Haux
  iapply (carry_on (A := iprop(ctx (chV I) (rbV I) K ∗ sending (chV I) (rbV I) 0 1 (rM c) c (grp 0) O 0 ∗ insOf c (I c) ∗ R)) ?_) $$ [-]
  rotate_left
  · unfold sending insOf
    isplitl [Hctx]; · iexact Hctx
    isplitl [Hs HO]
    · isplitl [Hs]
      · iexact Hs
      · iexact HO
    isplitr [HR]
    · isplitl [Hx]; · iexact Hx
      isplitl [Hq]; · iexact Hq
      isplitl [Hk]; · iexact Hk
      isplitl [Hv]; · iexact Hv
      iexact Ho
    · iexact HR
  refine branch (fun hk h => by
      refine sendA I K (j := 0) rfl ?_ ((cond1 c).mp h) ?_ ?_ ?_ ?_ ?_ hk
      exacts [by decide, by rw [Fin.ext_iff]; exact k0_dev8_eq, rows_at (Memref.whole cc0_scratch0) 0 rfl,
        slot_at (Memref.whole cc0_scratch1) c (k0_off2_eq c), sem_at 0 0 rfl, sem_at 1 c (k0_off1_eq c)])
    (fun h => send_skip (chV I) (rbV I) K (j := 0) rfl (not_not.mp (mt (cond1 c).mpr h))) ?_
  refine branch (fun hk h => by
      refine sendA I K (j := 1) rfl ?_ ((cond2 c).mp h) ?_ ?_ ?_ ?_ ?_ hk
      exacts [by decide, by rw [Fin.ext_iff]; exact k0_dev9_eq, rows_at (Memref.whole cc0_scratch0) 1 rfl,
        slot_at (Memref.whole cc0_scratch1) c (k0_off4_eq c), sem_at 0 1 rfl, sem_at 1 c (k0_off3_eq c)])
    (fun h => send_skip (chV I) (rbV I) K (j := 1) rfl (not_not.mp (mt (cond2 c).mpr h))) ?_
  refine branch (fun hk h => by
      refine sendA I K (j := 2) rfl ?_ ((cond3 c).mp h) ?_ ?_ ?_ ?_ ?_ hk
      exacts [by decide, by rw [Fin.ext_iff]; exact k0_dev10_eq, rows_at (Memref.whole cc0_scratch0) 2 rfl,
        slot_at (Memref.whole cc0_scratch1) c (k0_off6_eq c), sem_at 0 2 rfl, sem_at 1 c (k0_off5_eq c)])
    (fun h => send_skip (chV I) (rbV I) K (j := 2) rfl (not_not.mp (mt (cond3 c).mpr h))) ?_
  refine branch (fun hk h => by
      refine sendA I K (j := 3) rfl ?_ ((cond4 c).mp h) ?_ ?_ ?_ ?_ ?_ hk
      exacts [by decide, by rw [Fin.ext_iff]; exact k0_dev11_eq, rows_at (Memref.whole cc0_scratch0) 3 rfl,
        slot_at (Memref.whole cc0_scratch1) c (k0_off8_eq c), sem_at 0 3 rfl, sem_at 1 c (k0_off7_eq c)])
    (fun h => send_skip (chV I) (rbV I) K (j := 3) rfl (not_not.mp (mt (cond4 c).mpr h))) ?_
  unfold insOf
  iintro ⟨Hctx, Hs, ⟨Hx, Hi⟩, HR⟩
  iapply (load_use (X := (I c).x)) $$ Hx; iintro Hx
  iapply (part_ret .rfl)
  isplitl [Hctx]; · iexact Hctx
  isplitl [Hs]; · iexact Hs
  isplitl [Hx Hi]
  · isplitl [Hx]; · iexact Hx
    iexact Hi
  · iexact HR

end Run

end Cert.Proof

end
-- ==== Proof.Chunks2.lean ====
/-
# Batch 1 goes out

The part that stores the second half of the partial product, sends its chunks and starts the sum.
-/
module

public import proofs.«01_k».proof.Proof.Exchange

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Run

variable (I : Dev nD → Ins F) (K : GSem nD τ sig → ℕ) {c : Dev nD}

theorem both_halves (Φ : Dev nD → sProp 𝕄) : iprop(bigSep (grp 0) Φ ∗ bigSep (grp 1) Φ) ⊢ bigSep Finset.univ Φ := by
  rw [show (Finset.univ : Finset (Dev nD)) = grp 0 ∪ grp 1 by decide, bigSep_union (by decide)]
  exact BIBase.Entails.rfl

/-- The device's own chunk, out of those sent and back. -/
theorem own_chunk : bigSep Finset.univ (sendPost (chV I) (rbV I) 0 c) ⊢ iprop(owns (c : Thread nD τ) (pM c) fullShare (chV I c c) ∗ (owns (c : Thread nD τ) (pM c) fullShare (chV I c c) -∗ bigSep Finset.univ (sendPost (chV I) (rbV I) 0 c))) := by
  rw [bigSep_univ_split c]
  show iprop(_ ∗ bigSep (Finset.univ.erase c) (sendPost (chV I) (rbV I) 0 c)) ⊢ iprop(_ ∗ (_ -∗ (_ ∗ bigSep (Finset.univ.erase c) (sendPost (chV I) (rbV I) 0 c))))
  have e : sendPost (chV I) (rbV I) 0 c c = owns (c : Thread nD τ) (pM c) fullShare (chV I c c) := if_pos rfl
  rw [e]
  iintro ⟨H, HR⟩
  isplitl [H]; · iexact H
  iintro H
  isplitl [H]; · iexact H
  iexact HR

theorem load_rows {α : Type} {e : EltTy} {m : Memref sig .tc .vmem S512x512 e} {j : Dev nD} {o : Fin 2 → ℕ} {inb : ∀ a, o a + S64x512.size a ≤ S512x512.size a}
    (ho : o = ![64 * j.val, 0]) {X : S64x512.Idx → Elt F e} {hl : m.view.LoadsAt (Rect.unit (s := S512x512) o S64x512.size inb).toLoadRect}
    {f : (S64x512.Idx → Elt F e) → Prog (TpuEff nD τ sig (Elt F) Λ₀ .tc) α} {Q : α → sProp 𝕄} :
    (owns (c : Thread nD τ) (m.slice (rowR j) (fun _ => rfl)) fullShare X : sProp 𝕄)
      ⊢ iprop((owns (c : Thread nD τ) (m.slice (rowR j) (fun _ => rfl)) fullShare X -∗ Runs c (f X) Q)
        -∗ Runs c (Prog.lift (.load m (Rect.unit (s := S512x512) o S64x512.size inb).toLoadRect hl) >>= f) Q) := by
  subst ho
  exact slice_load (r := rowR j)

set_option maxHeartbeats 4000000 in
/-- Batch 1's rows stored and their chunks sent, the running sum set to the device's own chunk, chunk 0 added. -/
theorem run9 {T : Finset (Dev nD)} {R : sProp 𝕄} :
    iprop(ctx (chV I) (rbV I) K ∗ sending (chV I) (rbV I) 0 1 (rM c) c (grp 0) (oweC c T) 4 ∗ insOf c (I c) ∗ (∃ X, owns (c : Thread nD τ) (hM 1) fullShare X)
        ∗ bigSep (grp 1) (sendAux (F := F) 0 1 (rM c) c) ∗ (∃ X, owns (c : Thread nD τ) sM fullShare X)
        ∗ bigSep Finset.univ (waitPre (F := F) 1 c iprop(emp)) ∗ R)
      ⊢ Runs c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c (devW c) (a1 (I c)))
      (fun r => iprop(⌜r = ⟨(Scalar.extui (Scalar.cmpi .ne (devW c) 1#32)), 0#32⟩⌝ ∗ (ctx (chV I) (rbV I) K ∗ waiting (chV I) (rbV I) 1 c iprop(emp) (oweC c T) 1 ∗ owns (c : Thread nD τ) sM fullShare (accV I c 1)
        ∗ (bigSep Finset.univ (sendPost (chV I) (rbV I) 0 c) ∗ insOf c (I c) ∗ R)))) := by
  rw [k0_part9_eq_skeleton]
  unfold k0_part9_skel
  unfold insOf sending
  iintro ⟨Hctx, ⟨Hs0, HO⟩, ⟨Hx, Hq, Hk, Hv, Ho⟩, ⟨%X, Hh⟩, Haux, Hsum, Hw, HR⟩
  iapply (load_all zero2 (X := (I c).o)) $$ Ho; iintro Ho
  iapply (slice_load (m := Memref.whole cc0_scratch0) (r := halfR 1) (hr := fun _ => rfl) (X := X)) $$ Hh; iintro Hh
  iapply (slice_store (m := Memref.whole cc0_scratch0) (r := halfR 1) (hr := fun _ => rfl) (X := X)) $$ Hh; iintro Hh
  ihave Hs := (half_ready I 1 (c := c)) $$ [Hh Haux]
  · isplitl [Hh]
    · iexact Hh
    · iexact Haux
  iapply (carry_on (A := iprop(ctx (chV I) (rbV I) K ∗ sending (chV I) (rbV I) 0 1 (rM c) c (grp 1) (oweC c T) 4 ∗ bigSep (grp 0) (sendPost (chV I) (rbV I) 0 c) ∗ insOf c (I c)
    ∗ (∃ X, owns (c : Thread nD τ) sM fullShare X) ∗ bigSep Finset.univ (waitPre (F := F) 1 c iprop(emp)) ∗ R)) ?_) $$ [-]
  rotate_left
  · unfold sending insOf
    isplitl [Hctx]; · iexact Hctx
    isplitl [Hs HO]
    · isplitl [Hs]
      · iexact Hs
      · iexact HO
    isplitl [Hs0]
    · iapply (Entails.of_eq (sweep_last (fun j hj => by
        have : j.val / 4 = 0 := congrArg Fin.val (Finset.mem_filter.mp hj).2
        omega))) $$ Hs0
    isplitl [Hx Hq Hk Hv Ho]
    · isplitl [Hx]; · iexact Hx
      isplitl [Hq]; · iexact Hq
      isplitl [Hk]; · iexact Hk
      isplitl [Hv]; · iexact Hv
      iexact Ho
    isplitl [Hsum]; · iexact Hsum
    isplitl [Hw]; · iexact Hw
    iexact HR
  refine branch (fun hk h => by
      refine sendA I K (j := 4) rfl ?_ ((cond5 c).mp h) ?_ ?_ ?_ ?_ ?_ hk
      exacts [by decide, by rw [Fin.ext_iff]; exact k0_dev12_eq, rows_at (Memref.whole cc0_scratch0) 4 rfl,
        slot_at (Memref.whole cc0_scratch1) c (k0_off10_eq c), sem_at 0 4 rfl, sem_at 1 c (k0_off9_eq c)])
    (fun h => send_skip (chV I) (rbV I) K (j := 4) rfl (not_not.mp (mt (cond5 c).mpr h))) ?_
  refine branch (fun hk h => by
      refine sendA I K (j := 5) rfl ?_ ((cond6 c).mp h) ?_ ?_ ?_ ?_ ?_ hk
      exacts [by decide, by rw [Fin.ext_iff]; exact k0_dev13_eq, rows_at (Memref.whole cc0_scratch0) 5 rfl,
        slot_at (Memref.whole cc0_scratch1) c (k0_off12_eq c), sem_at 0 5 rfl, sem_at 1 c (k0_off11_eq c)])
    (fun h => send_skip (chV I) (rbV I) K (j := 5) rfl (not_not.mp (mt (cond6 c).mpr h))) ?_
  refine branch (fun hk h => by
      refine sendA I K (j := 6) rfl ?_ ((cond7 c).mp h) ?_ ?_ ?_ ?_ ?_ hk
      exacts [by decide, by rw [Fin.ext_iff]; exact k0_dev14_eq, rows_at (Memref.whole cc0_scratch0) 6 rfl,
        slot_at (Memref.whole cc0_scratch1) c (k0_off14_eq c), sem_at 0 6 rfl, sem_at 1 c (k0_off13_eq c)])
    (fun h => send_skip (chV I) (rbV I) K (j := 6) rfl (not_not.mp (mt (cond7 c).mpr h))) ?_
  refine branch (fun hk h => by
      refine sendA I K (j := 7) rfl ?_ ((cond8 c).mp h) ?_ ?_ ?_ ?_ ?_ hk
      exacts [by decide, by rw [Fin.ext_iff]; exact k0_dev15_eq, rows_at (Memref.whole cc0_scratch0) 7 rfl,
        slot_at (Memref.whole cc0_scratch1) c (k0_off16_eq c), sem_at 0 7 rfl, sem_at 1 c (k0_off15_eq c)])
    (fun h => send_skip (chV I) (rbV I) K (j := 7) rfl (not_not.mp (mt (cond8 c).mpr h))) ?_
  iintro ⟨Hctx, Hs, Hs0, HI, ⟨%Y, Hsum⟩, Hw, HR⟩
  icases (sends_done I (n := (7 : Dev nD).val + 1) rfl) $$ Hs with ⟨Hs, HO⟩
  ihave Hs := (both_halves (sendPost (chV I) (rbV I) 0 c)) $$ [Hs0 Hs]
  · isplitl [Hs0]
    · iexact Hs0
    · iexact Hs
  icases (own_chunk I) $$ Hs with ⟨Hp, Hback⟩
  iapply (load_rows (m := Memref.whole cc0_scratch0) (j := c) (k0_off17_eq c)) $$ Hp; iintro Hp
  iapply (load_all zero2 (X := Y)) $$ Hsum; iintro Hsum
  iapply (store_all zero2 (X := Y)) $$ Hsum; iintro Hsum
  iapply (carry_on (A := iprop(ctx (chV I) (rbV I) K ∗ waiting (chV I) (rbV I) 1 c iprop(emp) (oweC c T) 0 ∗ owns (c : Thread nD τ) sM fullShare (accV I c 0)
        ∗ (bigSep Finset.univ (sendPost (chV I) (rbV I) 0 c) ∗ insOf c (I c) ∗ R))) ?_) $$ [-]
  rotate_left
  · isplitl [Hctx]; · iexact Hctx
    isplitl [Hw HO]
    · unfold waiting
      isplitl [Hw]
      · iapply (Entails.of_eq (sweep_first (fun j _ => Nat.zero_le _)).symm) $$ Hw
      · iexact HO
    isplitl [Hsum]; · iexact Hsum
    isplitl [Hback Hp]
    · iapply Hback; iexact Hp
    isplitl [HI]; · iexact HI
    iexact HR
  refine branch (fun hk h => by
      refine recvB I K (T := T) (j := 0) rfl ((cond_word c 0).mp h) ?_ ?_ ?_ ?_ hk
      exacts [sem_at 1 0 rfl, rfl, rfl, rfl])
    (fun h => recvB_skip I K (T := T) (j := 0) rfl (not_not.mp (mt (cond_word c 0).mpr h))) ?_
  exact part_ret .rfl

end Run

end Cert.Proof

end
-- ==== Proof.Reduce.lean ====
/-
# The sum

The part that adds the other chunks that land, rounds the sum and starts sending it.
-/
module

public import proofs.«01_k».proof.Proof.Exchange

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Run

variable (I : Dev nD → Ins F) (K : GSem nD τ sig → ℕ) {c : Dev nD}

/-- The rounded sum shared out for its sends. -/
theorem share_out : iprop(owns (c : Thread nD τ) dM fullShare (rbV I c) ∗ bigSep Finset.univ (sendAux (F := F) 2 3 (aM c) c) ∗ debt c (oweC c (peers c)))
    ⊢ sending (chV I) (rbV I) 2 3 (aM c) c Finset.univ 0 0 := by
  unfold sending
  rw [todo_zero, zero_add, sweep_first (fun j _ => Nat.zero_le _)]
  iintro ⟨Hd, Ha, HO⟩
  isplitr [HO]
  · ihave Hd := (show (owns (c : Thread nD τ) dM fullShare (rbV I c) : sProp 𝕄) ⊢ bigSep Finset.univ fun j => xPay (chV I) (rbV I) 2 c j
      from (ownsSat_pieces (c : Thread nD τ) dM (· = rbV I c) 8 (by decide) fullShare).1) $$ Hd
    iapply (show iprop((bigSep Finset.univ fun j => (xPay (chV I) (rbV I) 2 c j : sProp 𝕄)) ∗ bigSep Finset.univ (sendAux (F := F) 2 3 (aM c) c)) ⊢ _
      from (Entails.of_eq (bigSep_sep _ _ _).symm).trans (bigSep_mono fun j _ => send_ready I 2 3 (aM c) j)) $$ [Hd Ha]
    isplitl [Hd]
    · iexact Hd
    · iexact Ha
  · iexact HO

set_option maxHeartbeats 4000000 in
/-- Chunks 1 … 7 added, the sum rounded and sent to devices 0 and 1. -/
theorem run10 {R : sProp 𝕄} :
    iprop(ctx (chV I) (rbV I) K ∗ waiting (chV I) (rbV I) 1 c iprop(emp) (oweC c (peers c)) 1 ∗ owns (c : Thread nD τ) sM fullShare (accV I c 1)
        ∗ ((∃ X, owns (c : Thread nD τ) dM fullShare X) ∗ bigSep Finset.univ (sendAux (F := F) 2 3 (aM c) c) ∗ R))
      ⊢ Runs c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c (devW c) (Scalar.extui (Scalar.cmpi .ne (devW c) 1#32)) 0#32)
      (fun r => iprop(⌜r = ⟨⟩⌝ ∗ (ctx (chV I) (rbV I) K ∗ sending (chV I) (rbV I) 2 3 (aM c) c Finset.univ 0 2
        ∗ (bigSep Finset.univ (waitPost (chV I) (rbV I) 1 c iprop(emp)) ∗ owns (c : Thread nD τ) sM fullShare (accV I c 8) ∗ R)))) := by
  rw [k0_part10_eq_skeleton]
  unfold k0_part10_skel
  refine branch (fun hk h => by
      refine recvB I K (T := (peers c)) (j := 1) rfl ((cond_word c 1).mp h) ?_ ?_ ?_ ?_ hk
      exacts [sem_at 1 1 rfl, rfl, rfl, rfl])
    (fun h => recvB_skip I K (T := (peers c)) (j := 1) rfl (not_not.mp (mt (cond_word c 1).mpr h))) ?_
  refine branch (fun hk h => by
      refine recvB I K (T := (peers c)) (j := 2) rfl ((cond_word c 2).mp h) ?_ ?_ ?_ ?_ hk
      exacts [sem_at 1 2 rfl, rfl, rfl, rfl])
    (fun h => recvB_skip I K (T := (peers c)) (j := 2) rfl (not_not.mp (mt (cond_word c 2).mpr h))) ?_
  refine branch (fun hk h => by
      refine recvB I K (T := (peers c)) (j := 3) rfl ((cond_word c 3).mp h) ?_ ?_ ?_ ?_ hk
      exacts [sem_at 1 3 rfl, rfl, rfl, rfl])
    (fun h => recvB_skip I K (T := (peers c)) (j := 3) rfl (not_not.mp (mt (cond_word c 3).mpr h))) ?_
  refine branch (fun hk h => by
      refine recvB I K (T := (peers c)) (j := 4) rfl ((cond_word c 4).mp h) ?_ ?_ ?_ ?_ hk
      exacts [sem_at 1 4 rfl, rfl, rfl, rfl])
    (fun h => recvB_skip I K (T := (peers c)) (j := 4) rfl (not_not.mp (mt (cond_word c 4).mpr h))) ?_
  refine branch (fun hk h => by
      refine recvB I K (T := (peers c)) (j := 5) rfl ((cond_word c 5).mp h) ?_ ?_ ?_ ?_ hk
      exacts [sem_at 1 5 rfl, rfl, rfl, rfl])
    (fun h => recvB_skip I K (T := (peers c)) (j := 5) rfl (not_not.mp (mt (cond_word c 5).mpr h))) ?_
  refine branch (fun hk h => by
      refine recvB I K (T := (peers c)) (j := 6) rfl ((cond_word c 6).mp h) ?_ ?_ ?_ ?_ hk
      exacts [sem_at 1 6 rfl, rfl, rfl, rfl])
    (fun h => recvB_skip I K (T := (peers c)) (j := 6) rfl (not_not.mp (mt (cond_word c 6).mpr h))) ?_
  refine branch (fun hk h => by
      refine recvB I K (T := (peers c)) (j := 7) rfl ((cond_word c 7).mp h) ?_ ?_ ?_ ?_ hk
      exacts [sem_at 1 7 rfl, rfl, rfl, rfl])
    (fun h => recvB_skip I K (T := (peers c)) (j := 7) rfl (not_not.mp (mt (cond_word c 7).mpr h))) ?_
  iintro ⟨Hctx, Hw, Hsum, ⟨%X, Hd⟩, Haux, HR⟩
  icases (waits_done I (n := (7 : Dev nD).val + 1) rfl) $$ Hw with ⟨Hw, HO⟩
  iapply (load_all zero2 (X := accV I c ((7 : Dev nD).val + 1))) $$ Hsum; iintro Hsum
  iapply (load_all zero2 (X := X)) $$ Hd; iintro Hd
  iapply (store_all zero2 (X := X)) $$ Hd; iintro Hd
  iapply (carry_on (A := iprop(ctx (chV I) (rbV I) K ∗ sending (chV I) (rbV I) 2 3 (aM c) c Finset.univ 0 0
        ∗ (bigSep Finset.univ (waitPost (chV I) (rbV I) 1 c iprop(emp)) ∗ owns (c : Thread nD τ) sM fullShare (accV I c 8) ∗ R))) ?_) $$ [-]
  rotate_left
  · isplitl [Hctx]; · iexact Hctx
    isplitl [Hd Haux HO]
    · iapply (share_out I)
      isplitl [Hd]; · iexact Hd
      isplitl [Haux]; · iexact Haux
      iexact HO
    isplitl [Hw]; · iexact Hw
    isplitl [Hsum]; · iexact Hsum
    iexact HR
  refine branch (fun hk h => by
      refine sendC I K (j := 0) rfl ((cond17 c).mp h) ?_ ?_ ?_ ?_ hk
      exacts [by rw [Fin.ext_iff]; exact k0_dev16_eq,
        slot_at (Memref.whole cc0_scratch2) c (k0_off19_eq c), sem_at 2 0 rfl, sem_at 3 c (k0_off18_eq c)])
    (fun h => send_skip (chV I) (rbV I) K (j := 0) rfl (not_not.mp (mt (cond17 c).mpr h))) ?_
  refine branch (fun hk h => by
      refine sendC I K (j := 1) rfl ((cond18 c).mp h) ?_ ?_ ?_ ?_ hk
      exacts [by rw [Fin.ext_iff]; exact k0_dev17_eq,
        slot_at (Memref.whole cc0_scratch2) c (k0_off21_eq c), sem_at 2 1 rfl, sem_at 3 c (k0_off20_eq c)])
    (fun h => send_skip (chV I) (rbV I) K (j := 1) rfl (not_not.mp (mt (cond18 c).mpr h))) ?_
  exact part_ret .rfl

end Run

end Cert.Proof

end
-- ==== Proof.Share.lean ====
/-
# The sums go out

The part that sends the sum to devices 2 … 7 and takes the first chunks back.
-/
module

public import proofs.«01_k».proof.Proof.Exchange

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Run

variable (I : Dev nD → Ins F) (K : GSem nD τ sig → ℕ) {c : Dev nD}

set_option maxHeartbeats 4000000 in
/-- The other sums sent, the chunks sent to devices 0 … 3 taken back. -/
theorem run11 {R : sProp 𝕄} :
    iprop(ctx (chV I) (rbV I) K ∗ sending (chV I) (rbV I) 2 3 (aM c) c Finset.univ 0 2 ∗ (bigSep Finset.univ (sendPost (chV I) (rbV I) 0 c) ∗ atRow (F := F) 0 c ∗ R))
      ⊢ Runs c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c (devW c))
      (fun r => iprop(⌜r = ⟨⟩⌝ ∗ (ctx (chV I) (rbV I) K ∗ waiting (chV I) (rbV I) 0 c (xPay (chV I) (rbV I) 0 c c) 0 4 ∗ (bigSep Finset.univ (sendPost (chV I) (rbV I) 2 c) ∗ R)))) := by
  rw [k0_part11_eq_skeleton]
  unfold k0_part11_skel
  refine branch (fun hk h => by
      refine sendC I K (j := 2) rfl ((cond19 c).mp h) ?_ ?_ ?_ ?_ hk
      exacts [by rw [Fin.ext_iff]; exact k0_dev18_eq,
        slot_at (Memref.whole cc0_scratch2) c (k0_off23_eq c), sem_at 2 2 rfl, sem_at 3 c (k0_off22_eq c)])
    (fun h => send_skip (chV I) (rbV I) K (j := 2) rfl (not_not.mp (mt (cond19 c).mpr h))) ?_
  refine branch (fun hk h => by
      refine sendC I K (j := 3) rfl ((cond20 c).mp h) ?_ ?_ ?_ ?_ hk
      exacts [by rw [Fin.ext_iff]; exact k0_dev19_eq,
        slot_at (Memref.whole cc0_scratch2) c (k0_off25_eq c), sem_at 2 3 rfl, sem_at 3 c (k0_off24_eq c)])
    (fun h => send_skip (chV I) (rbV I) K (j := 3) rfl (not_not.mp (mt (cond20 c).mpr h))) ?_
  refine branch (fun hk h => by
      refine sendC I K (j := 4) rfl ((cond21 c).mp h) ?_ ?_ ?_ ?_ hk
      exacts [by rw [Fin.ext_iff]; exact k0_dev20_eq,
        slot_at (Memref.whole cc0_scratch2) c (k0_off27_eq c), sem_at 2 4 rfl, sem_at 3 c (k0_off26_eq c)])
    (fun h => send_skip (chV I) (rbV I) K (j := 4) rfl (not_not.mp (mt (cond21 c).mpr h))) ?_
  refine branch (fun hk h => by
      refine sendC I K (j := 5) rfl ((cond22 c).mp h) ?_ ?_ ?_ ?_ hk
      exacts [by rw [Fin.ext_iff]; exact k0_dev21_eq,
        slot_at (Memref.whole cc0_scratch2) c (k0_off29_eq c), sem_at 2 5 rfl, sem_at 3 c (k0_off28_eq c)])
    (fun h => send_skip (chV I) (rbV I) K (j := 5) rfl (not_not.mp (mt (cond22 c).mpr h))) ?_
  refine branch (fun hk h => by
      refine sendC I K (j := 6) rfl ((cond23 c).mp h) ?_ ?_ ?_ ?_ hk
      exacts [by rw [Fin.ext_iff]; exact k0_dev22_eq,
        slot_at (Memref.whole cc0_scratch2) c (k0_off31_eq c), sem_at 2 6 rfl, sem_at 3 c (k0_off30_eq c)])
    (fun h => send_skip (chV I) (rbV I) K (j := 6) rfl (not_not.mp (mt (cond23 c).mpr h))) ?_
  refine branch (fun hk h => by
      refine sendC I K (j := 7) rfl ((cond24 c).mp h) ?_ ?_ ?_ ?_ hk
      exacts [by rw [Fin.ext_iff]; exact k0_dev23_eq,
        slot_at (Memref.whole cc0_scratch2) c (k0_off33_eq c), sem_at 2 7 rfl, sem_at 3 c (k0_off32_eq c)])
    (fun h => send_skip (chV I) (rbV I) K (j := 7) rfl (not_not.mp (mt (cond24 c).mpr h))) ?_
  refine BIBase.Entails.trans (Q := iprop(ctx (chV I) (rbV I) K ∗ waiting (chV I) (rbV I) 0 c (xPay (chV I) (rbV I) 0 c c) 0 0 ∗ (bigSep Finset.univ (sendPost (chV I) (rbV I) 2 c) ∗ R))) ?_ ?_
  · iintro ⟨Hctx, Hs, Hp, Ha, HR⟩
    icases (sends_done I (n := (7 : Dev nD).val + 1) rfl) $$ Hs with ⟨Hs, HO⟩
    isplitl [Hctx]; · iexact Hctx
    isplitl [Hp Ha HO]
    · iapply (drain_ready I)
      isplitl [Hp]; · iexact Hp
      isplitl [Ha]; · iexact Ha
      iexact HO
    isplitl [Hs]; · iexact Hs
    iexact HR
  refine branch (fun hk h => by
      refine drain I K (k := 0) (j := 0) rfl ((cond25 c).mp h) ?_ ?_ hk
      exacts [sem_at 0 0 rfl, rfl])
    (fun h => wait_skip (chV I) (rbV I) K (j := 0) rfl (not_not.mp (mt (cond25 c).mpr h))) ?_
  refine branch (fun hk h => by
      refine drain I K (k := 0) (j := 1) rfl ((cond26 c).mp h) ?_ ?_ hk
      exacts [sem_at 0 1 rfl, rfl])
    (fun h => wait_skip (chV I) (rbV I) K (j := 1) rfl (not_not.mp (mt (cond26 c).mpr h))) ?_
  refine branch (fun hk h => by
      refine drain I K (k := 0) (j := 2) rfl ((cond27 c).mp h) ?_ ?_ hk
      exacts [sem_at 0 2 rfl, rfl])
    (fun h => wait_skip (chV I) (rbV I) K (j := 2) rfl (not_not.mp (mt (cond27 c).mpr h))) ?_
  refine branch (fun hk h => by
      refine drain I K (k := 0) (j := 3) rfl ((cond28 c).mp h) ?_ ?_ hk
      exacts [sem_at 0 3 rfl, rfl])
    (fun h => wait_skip (chV I) (rbV I) K (j := 3) rfl (not_not.mp (mt (cond28 c).mpr h))) ?_
  exact part_ret .rfl

end Run

end Cert.Proof

end
-- ==== Proof.Output.lean ====
/-
# The output

The part that takes the other chunks back, writes the device's own sum and the first sums that land.
-/
module

public import proofs.«01_k».proof.Proof.Exchange

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Run

variable (I : Dev nD → Ins F) (K : GSem nD τ sig → ℕ) {c : Dev nD}

theorem load_rows' {α : Type} {e : EltTy} {m : Memref sig .tc .vmem S512x512 e} {j : Dev nD} {o : Fin 2 → ℕ} {inb : ∀ a, o a + S64x512.size a ≤ S512x512.size a}
    (ho : o = ![64 * j.val, 0]) {X : S64x512.Idx → Elt F e} {hl : m.view.LoadsAt (Rect.unit (s := S512x512) o S64x512.size inb).toLoadRect}
    {f : (S64x512.Idx → Elt F e) → Prog (TpuEff nD τ sig (Elt F) Λ₀ .tc) α} {Q : α → sProp 𝕄} :
    (owns (c : Thread nD τ) (m.slice (rowR j) (fun _ => rfl)) fullShare X : sProp 𝕄)
      ⊢ iprop((owns (c : Thread nD τ) (m.slice (rowR j) (fun _ => rfl)) fullShare X -∗ Runs c (f X) Q)
        -∗ Runs c (Prog.lift (.load m (Rect.unit (s := S512x512) o S64x512.size inb).toLoadRect hl) >>= f) Q) := by
  subst ho
  exact slice_load (r := rowR j)

theorem store_rows {α : Type} {e : EltTy} {m : Memref sig .tc .vmem S512x512 e} {j : Dev nD} {o : Fin 2 → ℕ} {inb : ∀ a, o a + S64x512.size a ≤ S512x512.size a}
    (ho : o = ![64 * j.val, 0]) {X w : S64x512.Idx → Elt F e} {hx : (m.access (Rect.unit (s := S512x512) o S64x512.size inb)).Stores Finset.univ}
    {hm : (Finset.univ : Finset S64x512.Idx) = Finset.univ ∨ ∀ a, (Rect.unit (s := S512x512) o S64x512.size inb).stride a = 1}
    {f : PUnit → Prog (TpuEff nD τ sig (Elt F) Λ₀ .tc) α} {Q : α → sProp 𝕄} :
    (owns (c : Thread nD τ) (m.slice (rowR j) (fun _ => rfl)) fullShare X : sProp 𝕄)
      ⊢ iprop((owns (c : Thread nD τ) (m.slice (rowR j) (fun _ => rfl)) fullShare w -∗ Runs c (f ⟨⟩) Q)
        -∗ Runs c (Prog.lift (.store m (Rect.unit (s := S512x512) o S64x512.size inb) w Finset.univ hx hm) >>= f) Q) := by
  subst ho
  exact slice_store (r := rowR j)

set_option maxHeartbeats 4000000 in
/-- The chunks sent to devices 4 … 7 taken back, the device's own rows written and the rows of devices 0 … 3. -/
theorem run12 {R : sProp 𝕄} :
    iprop(ctx (chV I) (rbV I) K ∗ waiting (chV I) (rbV I) 0 c (xPay (chV I) (rbV I) 0 c c) 0 4 ∗ (owns (c : Thread nD τ) sM fullShare (accV I c 8) ∗ (∃ X, owns (c : Thread nD τ) (oM c) fullShare X)
        ∗ (bigSep (peers c) fun j => iprop(∃ X, owns (c : Thread nD τ) (oM j) fullShare X)) ∗ bigSep Finset.univ (waitPre (F := F) 3 c iprop(emp)) ∗ R))
      ⊢ Runs c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c (devW c))
      (fun r => iprop(⌜r = (Scalar.extui (Scalar.cmpi .ne (devW c) 4#32))⌝ ∗ (ctx (chV I) (rbV I) K ∗ waiting (chV I) (rbV I) 3 c iprop(emp) 0 4 ∗ rowsAt I c 4
        ∗ (bigSep Finset.univ (waitPost (chV I) (rbV I) 0 c (xPay (chV I) (rbV I) 0 c c)) ∗ owns (c : Thread nD τ) sM fullShare (accV I c 8) ∗ owns (c : Thread nD τ) (oM c) fullShare (outRow I c c) ∗ R)))) := by
  rw [k0_part12_eq_skeleton]
  unfold k0_part12_skel
  refine branch (fun hk h => by
      refine drain I K (k := 0) (j := 4) rfl ((cond29 c).mp h) ?_ ?_ hk
      exacts [sem_at 0 4 rfl, rfl])
    (fun h => wait_skip (chV I) (rbV I) K (j := 4) rfl (not_not.mp (mt (cond29 c).mpr h))) ?_
  refine branch (fun hk h => by
      refine drain I K (k := 0) (j := 5) rfl ((cond30 c).mp h) ?_ ?_ hk
      exacts [sem_at 0 5 rfl, rfl])
    (fun h => wait_skip (chV I) (rbV I) K (j := 5) rfl (not_not.mp (mt (cond30 c).mpr h))) ?_
  refine branch (fun hk h => by
      refine drain I K (k := 0) (j := 6) rfl ((cond31 c).mp h) ?_ ?_ hk
      exacts [sem_at 0 6 rfl, rfl])
    (fun h => wait_skip (chV I) (rbV I) K (j := 6) rfl (not_not.mp (mt (cond31 c).mpr h))) ?_
  refine branch (fun hk h => by
      refine drain I K (k := 0) (j := 7) rfl ((cond32 c).mp h) ?_ ?_ hk
      exacts [sem_at 0 7 rfl, rfl])
    (fun h => wait_skip (chV I) (rbV I) K (j := 7) rfl (not_not.mp (mt (cond32 c).mpr h))) ?_
  iintro ⟨Hctx, Hw, Hsum, ⟨%X, Ho⟩, Hrows, Hw3, HR⟩
  icases (waits_done I (n := (7 : Dev nD).val + 1) rfl) $$ Hw with ⟨Hw, HO⟩
  iapply (load_all zero2 (X := accV I c 8)) $$ Hsum; iintro Hsum
  iapply (load_rows' (m := Memref.whole cc0_stg5_0) (j := c) (k0_off17_eq c)) $$ Ho; iintro Ho
  iapply (store_rows (m := Memref.whole cc0_stg5_0) (j := c) (k0_off17_eq c)) $$ Ho; iintro Ho
  iapply (carry_on (A := iprop(ctx (chV I) (rbV I) K ∗ waiting (chV I) (rbV I) 3 c iprop(emp) 0 0 ∗ rowsAt I c 0
        ∗ (bigSep Finset.univ (waitPost (chV I) (rbV I) 0 c (xPay (chV I) (rbV I) 0 c c)) ∗ owns (c : Thread nD τ) sM fullShare (accV I c 8) ∗ owns (c : Thread nD τ) (oM c) fullShare (outRow I c c) ∗ R))) ?_) $$ [-]
  rotate_left
  · isplitl [Hctx]; · iexact Hctx
    isplitl [Hw3 HO]
    · unfold waiting
      isplitl [Hw3]
      · iapply (Entails.of_eq (sweep_first (fun j _ => Nat.zero_le _)).symm) $$ Hw3
      · iexact HO
    isplitl [Hrows]
    · unfold rowsAt
      iapply (Entails.of_eq (sweep_first (fun j _ => Nat.zero_le _)).symm) $$ Hrows
    isplitl [Hw]; · iexact Hw
    isplitl [Hsum]; · iexact Hsum
    isplitl [Ho]
    · iapply (Entails.of_eq (congrArg (fun w => (owns (c : Thread nD τ) (oM c) fullShare w : sProp 𝕄)) (show accV I c 8 = outRow I c c from (if_pos rfl).symm))) $$ Ho
    iexact HR
  refine branch (fun hk h => by
      refine gatherE I K (j := 0) rfl ((cond_word c 0).mp h) ?_ ?_ ?_ ?_ ?_ ?_ hk
      exacts [sem_at 3 0 rfl, rfl, rfl, rfl, rfl, rfl])
    (fun h => gatherE_skip I K (j := 0) rfl (not_not.mp (mt (cond_word c 0).mpr h))) ?_
  refine branch (fun hk h => by
      refine gatherE I K (j := 1) rfl ((cond_word c 1).mp h) ?_ ?_ ?_ ?_ ?_ ?_ hk
      exacts [sem_at 3 1 rfl, rfl, rfl, rfl, rfl, rfl])
    (fun h => gatherE_skip I K (j := 1) rfl (not_not.mp (mt (cond_word c 1).mpr h))) ?_
  refine branch (fun hk h => by
      refine gatherE I K (j := 2) rfl ((cond_word c 2).mp h) ?_ ?_ ?_ ?_ ?_ ?_ hk
      exacts [sem_at 3 2 rfl, rfl, rfl, rfl, rfl, rfl])
    (fun h => gatherE_skip I K (j := 2) rfl (not_not.mp (mt (cond_word c 2).mpr h))) ?_
  refine branch (fun hk h => by
      refine gatherE I K (j := 3) rfl ((cond_word c 3).mp h) ?_ ?_ ?_ ?_ ?_ ?_ hk
      exacts [sem_at 3 3 rfl, rfl, rfl, rfl, rfl, rfl])
    (fun h => gatherE_skip I K (j := 3) rfl (not_not.mp (mt (cond_word c 3).mpr h))) ?_
  exact part_ret .rfl

end Run

end Cert.Proof

end
-- ==== Proof.Gather.lean ====
/-
# The last sums

The part that writes the other sums that land and takes the sent sums back.
-/
module

public import proofs.«01_k».proof.Proof.Exchange

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Run

variable (I : Dev nD → Ins F) (K : GSem nD τ sig → ℕ) {c : Dev nD}

set_option maxHeartbeats 4000000 in
/-- The rows of devices 4 … 7 written, the sums sent to devices 0 … 5 taken back. -/
theorem run13 {R : sProp 𝕄} :
    iprop(ctx (chV I) (rbV I) K ∗ waiting (chV I) (rbV I) 3 c iprop(emp) 0 4 ∗ rowsAt I c 4 ∗ (bigSep Finset.univ (sendPost (chV I) (rbV I) 2 c) ∗ atRow (F := F) 2 c ∗ R))
      ⊢ Runs c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c (devW c) (Scalar.extui (Scalar.cmpi .ne (devW c) 4#32)))
      (fun r => iprop(⌜r = (Scalar.extui (Scalar.cmpi .ne (devW c) 6#32))⌝ ∗ (ctx (chV I) (rbV I) K ∗ waiting (chV I) (rbV I) 2 c (xPay (chV I) (rbV I) 2 c c) 0 6
        ∗ (bigSep Finset.univ (waitPost (chV I) (rbV I) 3 c iprop(emp)) ∗ rowsAt I c 8 ∗ R)))) := by
  rw [k0_part13_eq_skeleton]
  unfold k0_part13_skel
  refine branch (fun hk h => by
      refine gatherE I K (j := 4) rfl ((cond_word c 4).mp h) ?_ ?_ ?_ ?_ ?_ ?_ hk
      exacts [sem_at 3 4 rfl, rfl, rfl, rfl, rfl, rfl])
    (fun h => gatherE_skip I K (j := 4) rfl (not_not.mp (mt (cond_word c 4).mpr h))) ?_
  refine branch (fun hk h => by
      refine gatherE I K (j := 5) rfl ((cond_word c 5).mp h) ?_ ?_ ?_ ?_ ?_ ?_ hk
      exacts [sem_at 3 5 rfl, rfl, rfl, rfl, rfl, rfl])
    (fun h => gatherE_skip I K (j := 5) rfl (not_not.mp (mt (cond_word c 5).mpr h))) ?_
  refine branch (fun hk h => by
      refine gatherE I K (j := 6) rfl ((cond_word c 6).mp h) ?_ ?_ ?_ ?_ ?_ ?_ hk
      exacts [sem_at 3 6 rfl, rfl, rfl, rfl, rfl, rfl])
    (fun h => gatherE_skip I K (j := 6) rfl (not_not.mp (mt (cond_word c 6).mpr h))) ?_
  refine branch (fun hk h => by
      refine gatherE I K (j := 7) rfl ((cond_word c 7).mp h) ?_ ?_ ?_ ?_ ?_ ?_ hk
      exacts [sem_at 3 7 rfl, rfl, rfl, rfl, rfl, rfl])
    (fun h => gatherE_skip I K (j := 7) rfl (not_not.mp (mt (cond_word c 7).mpr h))) ?_
  refine BIBase.Entails.trans (Q := iprop(ctx (chV I) (rbV I) K ∗ waiting (chV I) (rbV I) 2 c (xPay (chV I) (rbV I) 2 c c) 0 0
    ∗ (bigSep Finset.univ (waitPost (chV I) (rbV I) 3 c iprop(emp)) ∗ rowsAt I c 8 ∗ R))) ?_ ?_
  · iintro ⟨Hctx, Hw, Hr, Hp, Ha, HR⟩
    icases (waits_done I (n := (7 : Dev nD).val + 1) rfl) $$ Hw with ⟨Hw, HO⟩
    isplitl [Hctx]; · iexact Hctx
    isplitl [Hp Ha HO]
    · iapply (drain_ready I)
      isplitl [Hp]; · iexact Hp
      isplitl [Ha]; · iexact Ha
      iexact HO
    isplitl [Hw]; · iexact Hw
    isplitl [Hr]; · iexact Hr
    iexact HR
  refine branch (fun hk h => by
      refine drain I K (k := 2) (j := 0) rfl ((cond41 c).mp h) ?_ ?_ hk
      exacts [sem_at 2 0 rfl, rfl])
    (fun h => wait_skip (chV I) (rbV I) K (j := 0) rfl (not_not.mp (mt (cond41 c).mpr h))) ?_
  refine branch (fun hk h => by
      refine drain I K (k := 2) (j := 1) rfl ((cond42 c).mp h) ?_ ?_ hk
      exacts [sem_at 2 1 rfl, rfl])
    (fun h => wait_skip (chV I) (rbV I) K (j := 1) rfl (not_not.mp (mt (cond42 c).mpr h))) ?_
  refine branch (fun hk h => by
      refine drain I K (k := 2) (j := 2) rfl ((cond43 c).mp h) ?_ ?_ hk
      exacts [sem_at 2 2 rfl, rfl])
    (fun h => wait_skip (chV I) (rbV I) K (j := 2) rfl (not_not.mp (mt (cond43 c).mpr h))) ?_
  refine branch (fun hk h => by
      refine drain I K (k := 2) (j := 3) rfl ((cond44 c).mp h) ?_ ?_ hk
      exacts [sem_at 2 3 rfl, rfl])
    (fun h => wait_skip (chV I) (rbV I) K (j := 3) rfl (not_not.mp (mt (cond44 c).mpr h))) ?_
  refine branch (fun hk h => by
      refine drain I K (k := 2) (j := 4) rfl ((cond45 c).mp h) ?_ ?_ hk
      exacts [sem_at 2 4 rfl, rfl])
    (fun h => wait_skip (chV I) (rbV I) K (j := 4) rfl (not_not.mp (mt (cond45 c).mpr h))) ?_
  refine branch (fun hk h => by
      refine drain I K (k := 2) (j := 5) rfl ((cond46 c).mp h) ?_ ?_ hk
      exacts [sem_at 2 5 rfl, rfl])
    (fun h => wait_skip (chV I) (rbV I) K (j := 5) rfl (not_not.mp (mt (cond46 c).mpr h))) ?_
  exact part_ret .rfl

end Run

end Cert.Proof

end
-- ==== Proof.Body.lean ====
/-
# The whole kernel on one device

The parts in their order, from what a device starts with to what it ends with.
-/
module

public import proofs.«01_k».proof.Proof.Ready
public import proofs.«01_k».proof.Proof.Chunks
public import proofs.«01_k».proof.Proof.Chunks2
public import proofs.«01_k».proof.Proof.Reduce
public import proofs.«01_k».proof.Proof.Share
public import proofs.«01_k».proof.Proof.Output
public import proofs.«01_k».proof.Proof.Gather

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A part of the body run, the rest goes on from what it leaves. -/
theorem part_use {α β : Type} {c : Dev nD} {p : Prog (TpuEff nD τ sig (Elt F) Λ₀ .tc) β} {k : β → Prog (TpuEff nD τ sig (Elt F) Λ₀ .tc) α}
    {v : β} {A B : sProp 𝕄} {Q : α → sProp 𝕄} (hp : A ⊢ Runs c p (fun r => iprop(⌜r = v⌝ ∗ B))) :
    A ⊢ iprop((B -∗ Runs c (k v) Q) -∗ Runs c (p >>= k) Q) := by
  have h : iprop(Runs c p (fun r => iprop(⌜r = v⌝ ∗ B)) ∗ (B -∗ Runs c (k v) Q)) ⊢ Runs c (p >>= k) Q := by
    show _ ⊢ wp _ _ _ _ _
    rw [wp_bind]
    refine (wp_frame_r _ _ _).trans (wp_mono _ _ _ fun r => ?_)
    iintro ⟨⟨%e, HB⟩, HW⟩
    subst e
    iapply HW; iexact HB
  iintro HA HW
  iapply h
  isplitl [HA]
  · iapply hp; iexact HA
  · iexact HW

/-- The end of the body, where an update may still be made. -/
theorem part_over {β : Type} {c : Dev nD} {A : sProp 𝕄} {v : β} {Q : β → sProp 𝕄} (h : A ⊢ iprop(|={Set.univ}=> Q v)) : A ⊢ Runs c (Pure.pure v) Q := by
  show A ⊢ wp _ _ _ (.ret v) _
  rw [wp_ret]
  exact h

/-- A device's scratch buffers, whatever they hold. -/
def scratches (c : Dev nD) : sProp 𝕄 :=
  iprop((∃ X : S512x512.Idx → Elt F .bf16, owns (c : Thread nD τ) (Memref.whole cc0_scratch0) fullShare X)
    ∗ (∃ X : S8x64x512.Idx → Elt F .bf16, owns (c : Thread nD τ) (Memref.whole cc0_scratch1) fullShare X)
    ∗ (∃ X : S8x64x512.Idx → Elt F .bf16, owns (c : Thread nD τ) (Memref.whole cc0_scratch2) fullShare X)
    ∗ (∃ X : S64x512.Idx → Elt F .f32, owns (c : Thread nD τ) (Memref.whole cc0_scratch3) fullShare X)
    ∗ (∃ X : S64x512.Idx → Elt F .bf16, owns (c : Thread nD τ) (Memref.whole cc0_scratch4) fullShare X))

/-- A device's rights at the start: to pay its peers, and to wait at its own cells for what they pay. -/
def exchStart (c : Dev nD) : sProp 𝕄 :=
  iprop(bigSep (peers c) (peerTok (F := F) c) ∗ (cred (tallyAt (barCell c) () 7) ∗ atPos ER (barCell c) 0 ∅ 0)
    ∗ (atRow (F := F) 0 c ∗ atRow (F := F) 1 c ∗ atRow (F := F) 2 c ∗ atRow (F := F) 3 c)
    ∗ (bigSep (peers c) fun t => cred (tallyAt (xCell 1 c t) () N)) ∗ (bigSep (peers c) fun t => cred (tallyAt (xCell 3 c t) () N)))

/-- A row of `c`'s counters at zero. -/
def zeroRow (k : Fin 4) (c : Dev nD) : sProp 𝕄 := bigSep Finset.univ fun j : Dev nD => semVal (xCell k c j) 0
/-- All of `c`'s counters at zero. -/
def zeros (c : Dev nD) : sProp 𝕄 :=
  iprop((zeroRow (F := F) 0 c ∗ zeroRow (F := F) 1 c ∗ zeroRow (F := F) 2 c ∗ zeroRow (F := F) 3 c) ∗ semVal (barCell c) 0)

section Start

variable {c : Dev nD}

/-- `c`'s own landing slots apart from those it keeps for its peers. -/
theorem slots_apart :
    iprop((bigSep Finset.univ fun j : Dev nD => iprop(∃ X : Blk F, own₁ c (rM j) X)) ∗ (bigSep Finset.univ fun j : Dev nD => iprop(∃ X : Blk F, own₁ c (aM j) X)))
      ⊢ iprop((∃ X : Blk F, own₁ c (rM c) X) ∗ (∃ X : Blk F, own₁ c (aM c) X) ∗ bigSep (peers c) (slots (F := F) c)) := by
  rw [peers_split c, peers_split c]
  iintro ⟨⟨Hr, HR⟩, ⟨Ha, HA⟩⟩
  isplitl [Hr]; · iexact Hr
  isplitl [Ha]; · iexact Ha
  unfold slots
  rw [bigSep_sep']
  isplitl [HR]; · iexact HR
  iexact HA

/-- `c`'s own rows of the output apart from the others. -/
theorem rows_apart (X : S512x512.Idx → Elt F .f32) :
    (owns (c : Thread nD τ) (Memref.whole cc0_stg5_0) fullShare X : sProp 𝕄)
      ⊢ iprop((∃ X : S64x512.Idx → Elt F .f32, owns (c : Thread nD τ) (oM c) fullShare X)
        ∗ bigSep (peers c) fun j => iprop(∃ X : S64x512.Idx → Elt F .f32, owns (c : Thread nD τ) (oM j) fullShare X)) := by
  refine (rows_split (c := c) (Memref.whole cc0_stg5_0) X).trans ?_
  rw [peers_split c]
  refine BI.sep_mono ?_ (bigSep_mono fun j _ => ?_)
  · exact BIClass.exists_intro (Φ := fun X : S64x512.Idx → Elt F .f32 => owns (c : Thread nD τ) (oM c) fullShare X) _
  · exact BIClass.exists_intro (Φ := fun X : S64x512.Idx → Elt F .f32 => owns (c : Thread nD τ) (oM j) fullShare X) _

theorem signalling_ready :
    iprop(bigSep (peers c) (sigRes (F := F) c) ∗ debt c (O₀ c)) ⊢ signalling c (oweC c (peers c) + oweA c (peers c)) 0 := by
  unfold signalling O₀
  rw [far_zero]

end Start

section Run

variable (I : Dev nD → Ins F) (K : GSem nD τ sig → ℕ) {c : Dev nD}

/-- What the steps leave, put together again. -/
theorem all_over :
    iprop(ctx (chV I) (rbV I) K ∗ (bigSep Finset.univ (waitPost (chV I) (rbV I) 2 c (xPay (chV I) (rbV I) 2 c c)) ∗ debt c 0) ∗ (bigSep Finset.univ (waitPost (chV I) (rbV I) 0 c (xPay (chV I) (rbV I) 0 c c)) ∗ bigSep Finset.univ (waitPost (chV I) (rbV I) 1 c iprop(emp))
      ∗ bigSep Finset.univ (waitPost (chV I) (rbV I) 3 c iprop(emp)) ∗ rowsAt I c 8 ∗ owns (c : Thread nD τ) (oM c) fullShare (outRow I c c)
      ∗ owns (c : Thread nD τ) sM fullShare (accV I c 8) ∗ (∃ X : Blk F, own₁ c (rM c) X) ∗ (∃ X : Blk F, own₁ c (aM c) X)
      ∗ atPos ER (barCell c) (0 + 1) ∅ 0 ∗ insOf c (I c)))
      ⊢ iprop(|={Set.univ}=> (insOf c (I c) ∗ owns (c : Thread nD τ) (Memref.whole cc0_stg5_0) fullShare (outV I c) ∗ scratches (F := F) c ∗ zeros (F := F) c ∗ debt c 0)) := by
  iintro ⟨#Hctx, ⟨Hw2, HO⟩, Hw0, Hw1, Hw3, Hrows, HoC, Hacc, HrC, HaC, Hab, Hins⟩
  imod (row_over I K 0 (xPay (chV I) (rbV I) 0 c c)) $$ [Hw0] with ⟨Hz0, Hq0⟩
  · isplitr; · iexact Hctx
    iexact Hw0
  imod (row_over I K 1 iprop(emp)) $$ [Hw1] with ⟨Hz1, Hq1⟩
  · isplitr; · iexact Hctx
    iexact Hw1
  imod (row_over I K 2 (xPay (chV I) (rbV I) 2 c c)) $$ [Hw2] with ⟨Hz2, Hq2⟩
  · isplitr; · iexact Hctx
    iexact Hw2
  imod (row_over I K 3 iprop(emp)) $$ [Hw3] with ⟨Hz3, Hq3⟩
  · isplitr; · iexact Hctx
    iexact Hw3
  imod (close_bar (chV I) (rbV I) K c) $$ [Hab] with Hzb
  · isplitr
    · unfold ctx; icases Hctx with ⟨#HI, -⟩; iexact HI
    · iexact Hab
  imodintro
  isplitl [Hins]; · iexact Hins
  isplitl [Hrows HoC]
  · iapply (output_whole I)
    isplitl [HoC]; · iexact HoC
    iexact Hrows
  isplitl [Hq0 Hq1 Hq2 Hq3 Hacc HrC HaC]
  · unfold scratches
    isplitl [Hq0]; · iapply (chunks_back I); iexact Hq0
    isplitl [Hq1 HrC]
    · iapply (slots_back I 1 (Memref.whole cc0_scratch1) (fun j => chV I j c) (fun j => rfl))
      isplitl [HrC]; · iexact HrC
      iexact Hq1
    isplitl [Hq3 HaC]
    · iapply (slots_back I 3 (Memref.whole cc0_scratch2) (fun j => rbV I j) (fun j => rfl))
      isplitl [HaC]; · iexact HaC
      iexact Hq3
    isplitl [Hacc]; · iexists _; iexact Hacc
    iapply (shares_back I); iexact Hq2
  isplitr [HO]
  · unfold zeros zeroRow
    isplitr [Hzb]
    · isplitl [Hz0]; · iexact Hz0
      isplitl [Hz1]; · iexact Hz1
      isplitl [Hz2]; · iexact Hz2
      iexact Hz3
    · iexact Hzb
  · iexact HO

/-- The body's end. -/
abbrev endsIn (I : Dev nD → Ins F) (c : Dev nD) : PUnit → sProp 𝕄 := fun _ =>
  iprop(insOf c (I c) ∗ owns (c : Thread nD τ) (Memref.whole cc0_stg5_0) fullShare (outV I c) ∗ scratches (F := F) c ∗ zeros (F := F) c ∗ debt c 0)

set_option maxHeartbeats 4000000 in
/-- The kernel on device `c`: from its inputs, its scratch and its rights, to its output. -/
theorem body_runs :
    iprop(ctx (chV I) (rbV I) K ∗ marks c ∗ exchStart (F := F) c ∗ debt c (O₀ c) ∗ insOf c (I c)
        ∗ (∃ X : S512x512.Idx → Elt F .f32, owns (c : Thread nD τ) (Memref.whole cc0_stg5_0) fullShare X) ∗ scratches (F := F) c)
      ⊢ Runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (endsIn I c) := by
  rw [cc0_body_eq_skeleton]
  unfold cc0_body_skel exchStart scratches
  iintro ⟨#Hctx, #Hm, ⟨Htok, ⟨Hcb, Hab⟩, ⟨Ha0, Ha1, Ha2, Ha3⟩, Hc1, Hc3⟩, HO, Hins, ⟨%X5, H5⟩, ⟨%X0, Hs0⟩, ⟨%X1, Hs1⟩, ⟨%X2, Hs2⟩, Hs3, Hs4⟩
  icases ((slots_split (c := c) (Memref.whole cc0_scratch1) X1)) $$ Hs1 with H1
  icases ((slots_split (c := c) (Memref.whole cc0_scratch2) X2)) $$ Hs2 with H2
  icases (slots_apart (F := F) (c := c)) $$ [H1 H2] with ⟨HrC, HaC, Hslots⟩
  · isplitl [H1]
    · iexact H1
    · iexact H2
  icases (signals_ready (F := F) (c := c)) $$ [Htok Hslots] with ⟨Hsig, Ht01, Ht23⟩
  · isplitr
    · iexact Hm
    · isplitl [Htok]
      · iexact Htok
      · iexact Hslots
  icases (halves_split (c := c) X0) $$ Hs0 with ⟨Hh0, Hh1⟩
  icases (rows_apart (F := F) (c := c) X5) $$ H5 with ⟨HoC, HoP⟩
  icases (waits_ready (F := F) (c := c) 1) $$ [Ha1 Hc1] with Hw1
  · isplitl [Ha1]
    · iexact Ha1
    · iexact Hc1
  icases (waits_ready (F := F) (c := c) 3) $$ [Ha3 Hc3] with Hw3
  · isplitl [Ha3]
    · iexact Ha3
    · iexact Hc3
  icases (signalling_ready (F := F) (c := c)) $$ [Hsig HO] with HS
  · isplitl [Hsig]
    · iexact Hsig
    · iexact HO
  iapply (part_use (run1 (chV I) (rbV I) K (R := iprop(emp)))) $$ [HS]
  · isplitr
    · iexact Hctx
    · isplitl [HS]
      · iexact HS
      · iempintro
  iintro ⟨-, HS, -⟩
  iapply (part_use (run2 (chV I) (rbV I) K (R := iprop(emp)))) $$ [HS]
  · isplitr
    · iexact Hctx
    · isplitl [HS]
      · iexact HS
      · iempintro
  iintro ⟨-, HS, -⟩
  iapply (part_use (run3 (chV I) (rbV I) K (R := iprop(emp)))) $$ [HS Hcb Hab]
  · isplitr
    · iexact Hctx
    · isplitl [HS]
      · iexact HS
      · isplitl [Hcb Hab]
        · isplitl [Hcb]
          · iexact Hcb
          · iexact Hab
        · iempintro
  iintro ⟨-, HO, Hab, Hbp, -⟩
  icases (sends_ready (F := F) (c := c)) $$ [Ht01 Ht23 Hbp] with ⟨HA, HC⟩
  · isplitr
    · iexact Hm
    · isplitl [Ht01 Ht23]
      · isplitl [Ht01]
        · iexact Ht01
        · iexact Ht23
      · iexact Hbp
  icases (Entails.of_eq (by_half (sendAux (F := F) 0 1 (rM c) c))) $$ HA with ⟨HA0, HA1⟩
  iapply (part_use (run4 (I := I c) (R := iprop(emp)))) $$ [Hins]
  · isplitl [Hins]
    · iexact Hins
    · iempintro
  iintro ⟨Hins, -⟩
  iapply (part_use (run5 (I := I c) (R := iprop(emp)))) $$ [Hins]
  · isplitl [Hins]
    · iexact Hins
    · iempintro
  iintro ⟨Hins, -⟩
  ihave HO := (Entails.of_eq (congrArg (fun T => debt (F := F) c (oweC c (peers c) + oweA c T)) (todo_zero c).symm)) $$ HO
  iapply (part_use (run6 I K (R := iprop(emp)))) $$ [HO Hins Hh0 HA0]
  · isplitl [HO]
    · isplitr
      · iexact Hctx
      · iexact HO
    · isplitl [Hins]
      · iexact Hins
      · isplitl [Hh0]
        · iexact Hh0
        · isplitl [HA0]
          · iexact HA0
          · iempintro
  iintro ⟨-, HO, Hins, -⟩
  iapply (part_use (run7 (I := I c) (R := iprop(emp)))) $$ [Hins]
  · isplitl [Hins]
    · iexact Hins
    · iempintro
  iintro ⟨Hins, -⟩
  iapply (part_use (run8 (I := I c) (R := iprop(emp)))) $$ [Hins]
  · isplitl [Hins]
    · iexact Hins
    · iempintro
  iintro ⟨Hins, -⟩
  iapply (part_use (run9 I K (R := iprop(emp)))) $$ [HO Hins Hh1 HA1 Hs3 Hw1]
  · isplitr
    · iexact Hctx
    · isplitl [HO]
      · iexact HO
      · isplitl [Hins]
        · iexact Hins
        · isplitl [Hh1]
          · iexact Hh1
          · isplitl [HA1]
            · iexact HA1
            · isplitl [Hs3]
              · iexact Hs3
              · isplitl [Hw1]
                · iexact Hw1
                · iempintro
  iintro ⟨-, HO, Hacc, Hp0, Hins, -⟩
  iapply (part_use (run10 I K (R := iprop(emp)))) $$ [HO Hacc Hs4 HC]
  · isplitr
    · iexact Hctx
    · isplitl [HO]
      · iexact HO
      · isplitl [Hacc]
        · iexact Hacc
        · isplitl [Hs4]
          · iexact Hs4
          · isplitl [HC]
            · iexact HC
            · iempintro
  iintro ⟨-, HO, Hw1, Hacc, -⟩
  iapply (part_use (run11 I K (R := iprop(emp)))) $$ [HO Hp0 Ha0]
  · isplitr
    · iexact Hctx
    · isplitl [HO]
      · iexact HO
      · isplitl [Hp0]
        · iexact Hp0
        · isplitl [Ha0]
          · iexact Ha0
          · iempintro
  iintro ⟨-, HO, Hp2, -⟩
  iapply (part_use (run12 I K (R := iprop(emp)))) $$ [HO Hacc HoC HoP Hw3]
  · isplitr
    · iexact Hctx
    · isplitl [HO]
      · iexact HO
      · isplitl [Hacc]
        · iexact Hacc
        · isplitl [HoC]
          · iexact HoC
          · isplitl [HoP]
            · iexact HoP
            · isplitl [Hw3]
              · iexact Hw3
              · iempintro
  iintro ⟨-, HO, Hrows, Hw0, Hacc, HoC, -⟩
  iapply (part_use (run13 I K (R := iprop(emp)))) $$ [HO Hrows Hp2 Ha2]
  · isplitr
    · iexact Hctx
    · isplitl [HO]
      · iexact HO
      · isplitl [Hrows]
        · iexact Hrows
        · isplitl [Hp2]
          · iexact Hp2
          · isplitl [Ha2]
            · iexact Ha2
            · iempintro
  iintro ⟨-, HO, Hw3, Hrows, -⟩
  iapply (carry_on (A := iprop(ctx (chV I) (rbV I) K ∗ waiting (chV I) (rbV I) 2 c (xPay (chV I) (rbV I) 2 c c) 0 6
    ∗ (bigSep Finset.univ (waitPost (chV I) (rbV I) 0 c (xPay (chV I) (rbV I) 0 c c)) ∗ bigSep Finset.univ (waitPost (chV I) (rbV I) 1 c iprop(emp))
      ∗ bigSep Finset.univ (waitPost (chV I) (rbV I) 3 c iprop(emp)) ∗ rowsAt I c 8 ∗ owns (c : Thread nD τ) (oM c) fullShare (outRow I c c)
      ∗ owns (c : Thread nD τ) sM fullShare (accV I c 8) ∗ (∃ X : Blk F, own₁ c (rM c) X) ∗ (∃ X : Blk F, own₁ c (aM c) X)
      ∗ atPos ER (barCell c) (0 + 1) ∅ 0 ∗ insOf c (I c)))) ?_) $$ [-]
  rotate_left
  · isplitr
    · iexact Hctx
    · isplitl [HO]
      · iexact HO
      · isplitl [Hw0]
        · iexact Hw0
        · isplitl [Hw1]
          · iexact Hw1
          · isplitl [Hw3]
            · iexact Hw3
            · isplitl [Hrows]
              · iexact Hrows
              · isplitl [HoC]
                · iexact HoC
                · isplitl [Hacc]
                  · iexact Hacc
                  · isplitl [HrC]
                    · iexact HrC
                    · isplitl [HaC]
                      · iexact HaC
                      · isplitl [Hab]
                        · iexact Hab
                        · iexact Hins
  refine branch (fun hk h => by
      refine drain I K (k := 2) (j := 6) rfl ((cond47 c).mp h) ?_ ?_ hk
      exacts [sem_at 2 6 rfl, rfl])
    (fun h => wait_skip (chV I) (rbV I) K (j := 6) rfl (not_not.mp (mt (cond47 c).mpr h))) ?_
  refine branch (fun hk h => by
      refine drain I K (k := 2) (j := 7) rfl ((cond48 c).mp h) ?_ ?_ hk
      exacts [sem_at 2 7 rfl, rfl])
    (fun h => wait_skip (chV I) (rbV I) K (j := 7) rfl (not_not.mp (mt (cond48 c).mpr h))) ?_
  refine part_over (BIBase.Entails.trans ?_ (all_over I K))
  exact sep_mono_right (sep_mono_left (waits_done I (n := (7 : Dev nD).val + 1) rfl))

end Run

end Cert.Proof

end
-- ==== Proof.Region.lean ====
/-
# The kernel region

The kernel's body as the launch machinery wants it: the staged inputs and the output it writes, what a device holds
before and after, and how the exchange's cells are opened and closed.
-/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

/-! ## A buffer held whole -/

theorem whole_owns (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem some_owns (c : Dev nD) (b : Ref sig .tc) :
    (iprop(∃ f : Buf (Elt F) ((c : Thread nD τ).loc b), ((c : Thread nD τ).loc b) ↦{fullShare} f) : sProp 𝕄)
      ⊢ iprop(∃ X : b.ty.Contents (Elt F), owns (c : Thread nD τ) (Memref.whole b) fullShare X) := by
  simp only [whole_owns]
  iintro ⟨%f, H⟩
  iexists f, f
  isplitr; · ipureintro; rfl
  iexact H

theorem owns_some (c : Dev nD) (b : Ref sig .tc) :
    (iprop(∃ X : b.ty.Contents (Elt F), owns (c : Thread nD τ) (Memref.whole b) fullShare X) : sProp 𝕄)
      ⊢ iprop(∃ f : Buf (Elt F) ((c : Thread nD τ).loc b), ((c : Thread nD τ).loc b) ↦{fullShare} f) := by
  simp only [whole_owns]
  iintro ⟨%X, %f, -, H⟩
  iexists f; iexact H

/-- The buffers no window stages are the scratch buffers. -/
theorem scratches_of_rest (c : Dev nD) : (Pipeline.scopedRest spec0 c : sProp 𝕄) ⊢ scratches (F := F) c := by
  rw [scopedRest0_eq]
  unfold scratches
  exact BI.sep_mono (some_owns c cc0_scratch0) (BI.sep_mono (some_owns c cc0_scratch1) (BI.sep_mono (some_owns c cc0_scratch2)
    (BI.sep_mono (some_owns c cc0_scratch3) (some_owns c cc0_scratch4))))
theorem rest_of_scratches (c : Dev nD) : scratches (F := F) c ⊢ (Pipeline.scopedRest spec0 c : sProp 𝕄) := by
  rw [scopedRest0_eq]
  unfold scratches
  exact BI.sep_mono (owns_some c cc0_scratch0) (BI.sep_mono (owns_some c cc0_scratch1) (BI.sep_mono (owns_some c cc0_scratch2)
    (BI.sep_mono (owns_some c cc0_scratch3) (owns_some c cc0_scratch4))))

/-! ## Staged values -/

variable (m : (ℓ : Loc nD τ sig) → Buf (Elt F) ℓ)

/-- What is staged on each device for the kernel: the arrays the first host operations leave. -/
def stagedIns (c : Dev nD) : Ins F where
  x := (win0_0.blk (0 : Fin 1)).view.read (Elt F) (V1 m c main_arg0)
  q := (win0_1.blk (0 : Fin 1)).view.read (Elt F) (V1 m c main_v18)
  k := (win0_2.blk (0 : Fin 1)).view.read (Elt F) (V1 m c main_v15)
  v := (win0_3.blk (0 : Fin 1)).view.read (Elt F) (V1 m c main_v16)
  o := (win0_4.blk (0 : Fin 1)).view.read (Elt F) (V1 m c main_arg4)

/-- The exchange's standing facts, at some names. -/
abbrev theCtx (K : GSem nD τ sig → ℕ) : sProp 𝕄 := ctx (chV (stagedIns m)) (rbV (stagedIns m)) K

/-- Before the kernel: the rights in the exchange, the scratch buffers and the generator register. -/
def before₀ (c : Dev nD) : sProp 𝕄 :=
  iprop((∃ K, theCtx m K ∗ marks c ∗ exchStart (F := F) c) ∗ scratches (F := F) c ∗ ∃ r, prngReg c r)
/-- After it: all counters back at zero. -/
def after₀ (c : Dev nD) : sProp 𝕄 := iprop(zeros (F := F) c ∗ scratches (F := F) c ∗ ∃ r, prngReg c r)

/-- The region's data on device `c`. -/
def dat0 (c : Dev nD) : Dat τ (Elt F) Unit ℕ UU ℕ cfg0 c where
  A w := V1 m c (Pipeline.arrRef cfg0.spec w)
  after w _ := match w with
    | ⟨0, _⟩ => (stagedIns m c).x
    | ⟨1, _⟩ => (stagedIns m c).q
    | ⟨2, _⟩ => (stagedIns m c).k
    | ⟨3, _⟩ => (stagedIns m c).v
    | ⟨4, _⟩ => (stagedIns m c).o
    | ⟨5, _⟩ => outV (stagedIns m) c
  Φ t := match t with
    | ⟨0, _⟩ => before₀ m c
    | ⟨_ + 1, _⟩ => after₀ c
  q _ := fullShare
  owed t := match t with
    | ⟨0, _⟩ => O₀ c
    | ⟨_ + 1, _⟩ => 0

def pdats : (p : Fin 1) → (c : Dev nD) → Dat τ (Elt F) Unit ℕ UU ℕ (Pipeline.pin (pcfgs (F := F)) adm p) c
  | 0 => dat0 m

theorem share_full (c : Dev nD) (w : Fin cfg0.W) : (dat0 m c).share w = fullShare := by unfold Dat.share; split <;> rfl

/-! ## The body -/

section Obligation

variable {c : Dev nD}

theorem before_x (d) : (dat0 m c).before 0 t0_0 d = (stagedIns m c).x := by unfold Dat.before; rw [if_pos (fetch0_0 t0_0)]; rfl
theorem before_q (d) : (dat0 m c).before 1 t0_0 d = (stagedIns m c).q := by unfold Dat.before; rw [if_pos (fetch0_1 t0_0)]; rfl
theorem before_k (d) : (dat0 m c).before 2 t0_0 d = (stagedIns m c).k := by unfold Dat.before; rw [if_pos (fetch0_2 t0_0)]; rfl
theorem before_v (d) : (dat0 m c).before 3 t0_0 d = (stagedIns m c).v := by unfold Dat.before; rw [if_pos (fetch0_3 t0_0)]; rfl
theorem before_o (d) : (dat0 m c).before 4 t0_0 d = (stagedIns m c).o := by unfold Dat.before; rw [if_pos (fetch0_4 t0_0)]; rfl

/-- What the body starts from, the windows' staging buffers one by one. -/
def bodyPre (c : Dev nD) : sProp 𝕄 :=
  iprop(before₀ m c ∗ (dat0 m c).owesAt () t0_0.castSucc
    ∗ (∃ d, owns (c : Thread nD τ) (Memref.whole cc0_stg0_0) fullShare ((dat0 m c).before (0 : Fin 6) t0_0 d))
    ∗ (∃ d, owns (c : Thread nD τ) (Memref.whole cc0_stg1_0) fullShare ((dat0 m c).before (1 : Fin 6) t0_0 d))
    ∗ (∃ d, owns (c : Thread nD τ) (Memref.whole cc0_stg2_0) fullShare ((dat0 m c).before (2 : Fin 6) t0_0 d))
    ∗ (∃ d, owns (c : Thread nD τ) (Memref.whole cc0_stg3_0) fullShare ((dat0 m c).before (3 : Fin 6) t0_0 d))
    ∗ (∃ d, owns (c : Thread nD τ) (Memref.whole cc0_stg4_0) fullShare ((dat0 m c).before (4 : Fin 6) t0_0 d))
    ∗ (∃ d, owns (c : Thread nD τ) (Memref.whole cc0_stg5_0) fullShare ((dat0 m c).before (5 : Fin 6) t0_0 d)))

/-- What it leaves. -/
def bodyPost (c : Dev nD) : sProp 𝕄 :=
  iprop(after₀ c ∗ (dat0 m c).owesAt () t0_0.succ
    ∗ owns (c : Thread nD τ) (Memref.whole cc0_stg0_0) fullShare (stagedIns m c).x
    ∗ owns (c : Thread nD τ) (Memref.whole cc0_stg1_0) fullShare (stagedIns m c).q
    ∗ owns (c : Thread nD τ) (Memref.whole cc0_stg2_0) fullShare (stagedIns m c).k
    ∗ owns (c : Thread nD τ) (Memref.whole cc0_stg3_0) fullShare (stagedIns m c).v
    ∗ owns (c : Thread nD τ) (Memref.whole cc0_stg4_0) fullShare (stagedIns m c).o
    ∗ owns (c : Thread nD τ) (Memref.whole cc0_stg5_0) fullShare (outV (stagedIns m) c))

theorem owed_before : ((dat0 m c).owesAt () t0_0.castSucc : sProp 𝕄) ⊢ debt c (O₀ c) := by
  unfold Dat.owesAt Pipeline.owesWithin debt
  rw [show (dat0 m c).owed t0_0.castSucc = O₀ c from rfl]
  iintro ⟨%W, -, H⟩
  iexists W; iexact H

theorem owed_after : (debt c 0 : sProp 𝕄) ⊢ (dat0 m c).owesAt () t0_0.succ := by
  unfold Dat.owesAt Pipeline.owesWithin debt
  rw [show (dat0 m c).owed t0_0.succ = 0 from rfl]
  iintro ⟨%W, H⟩
  iexists W
  isplitr; · ipureintro; exact fun _ _ => Or.inl trivial
  iexact H

/-- The body starts from what `body_runs` asks, a generator register to spare. -/
theorem start_ready : bodyPre m c ⊢ iprop(∃ K, (∃ r, prngReg c r) ∗ theCtx m K ∗ marks c ∗ exchStart (F := F) c ∗ debt c (O₀ c)
    ∗ insOf c (stagedIns m c) ∗ (∃ X : S512x512.Idx → Elt F .f32, owns (c : Thread nD τ) (Memref.whole cc0_stg5_0) fullShare X) ∗ scratches (F := F) c) := by
  unfold bodyPre before₀ insOf
  simp only [before_x, before_q, before_k, before_v, before_o]
  iintro ⟨⟨⟨%K, #Hctx, #Hm, He⟩, Hs, Hp⟩, Ho, ⟨%d0, H0⟩, ⟨%d1, H1⟩, ⟨%d2, H2⟩, ⟨%d3, H3⟩, ⟨%d4, H4⟩, ⟨%d5, H5⟩⟩
  iexists K
  isplitl [Hp]; · iexact Hp
  isplitr; · iexact Hctx
  isplitr; · iexact Hm
  isplitl [He]; · iexact He
  isplitl [Ho]; · iapply (owed_before m); iexact Ho
  isplitl [H0 H1 H2 H3 H4]
  · isplitl [H0]; · iexact H0
    isplitl [H1]; · iexact H1
    isplitl [H2]; · iexact H2
    isplitl [H3]; · iexact H3
    iexact H4
  isplitl [H5]
  · iexists _; iexact H5
  · iexact Hs

/-- What `body_runs` ends with is what the body must leave. -/
theorem end_ready (r : PUnit) : iprop((∃ r, prngReg c r) ∗ endsIn (stagedIns m) c r) ⊢ bodyPost m c := by
  unfold endsIn bodyPost after₀ insOf
  iintro ⟨Hp, ⟨H0, H1, H2, H3, H4⟩, H5, Hs, Hz, Ho⟩
  isplitl [Hz Hs Hp]
  · isplitl [Hz]; · iexact Hz
    isplitl [Hs]; · iexact Hs
    iexact Hp
  isplitl [Ho]; · iapply (owed_after m); iexact Ho
  isplitl [H0]; · iexact H0
  isplitl [H1]; · iexact H1
  isplitl [H2]; · iexact H2
  isplitl [H3]; · iexact H3
  isplitl [H4]; · iexact H4
  iexact H5

/-- The body's run, framed by the generator register. -/
theorem body_framed : bodyPre m c ⊢ wp frame (wpE (defs₀ (F := F)) Variants.none (c : Thread nD τ) none) Set.univ (bodyAt0 (F := F) t0_0) (fun _ => bodyPost m c) := by
  refine (start_ready m).trans (BIClass.exists_elim fun K => ?_)
  refine (sep_mono_right (body_runs (stagedIns m) K)).trans ?_
  exact (wp_frame_l _ _ _).trans (wp_mono _ _ _ fun r => end_ready m r)

end Obligation

set_option maxRecDepth 4000 in
/-- The body's obligation: from the staged inputs and the rights, the output and the counters at zero. -/
theorem body_obligation (c : Dev nD) : BodyObligation (dat0 m c) (defs₀ (F := F)) Variants.none () Set.univ := fun t => by
  obtain rfl := fin_N0 t
  rw [bigSep_W0, bigSep_W0]
  exact body_framed m

end Cert.Proof

end
-- ==== Proof.Segment.lean ====
/-
# The region in @main

The region's record: how it is entered from what the launch deals a device, and what it is left with.
-/
module

public import proofs.«01_k».proof.Proof.Region

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## What the region leaves in the arrays -/

/-- The region changes its result array only. -/
def outs : Outs (F := F) := fun _ r c =>
  Function.update (fun r : Ref sig .tc => (m ((c : Thread nD τ).loc r) : Buf (Elt F) ((c : Thread nD τ).loc r))) main_v19 ((dat0 m c).arrAt 5 cfg0.N) r

theorem outs_v19 (c : Dev nD) : outs m 2 main_v19 c = (dat0 m c).arrAt 5 cfg0.N := Function.update_self ..

theorem in_keeps (c : Dev nD) (w : Fin 6) (hw : (cfg0.win w).isOut = false) (hne : Pipeline.arrRef spec0 w ≠ main_v19) :
    (dat0 m c).arrAt w cfg0.N = V2 m (outs m) c (Proc.devRef .tc (Pipeline.arrRef spec0 w)) :=
  ((dat0 m c).arrAt_in w hw _).trans (V2_of m (outs m) c (Pipeline.arrRef spec0 w) (by simpa using hne)).symm

theorem leaves (c : Dev nD) (w : Fin 6) : (dat0 m c).arrAt w cfg0.N = V2 m (outs m) c (Proc.devRef .tc (Pipeline.arrRef spec0 w)) := by
  match w with
  | 0 => exact in_keeps m c 0 rfl (by decide)
  | 1 => exact in_keeps m c 1 rfl (by decide)
  | 2 => exact in_keeps m c 2 rfl (by decide)
  | 3 => exact in_keeps m c 3 rfl (by decide)
  | 4 => exact in_keeps m c 4 rfl (by decide)
  | 5 => exact (outs_v19 m c).symm.trans (Function.update_self (Proc.devRef .tc main_v19) (outs m 2 main_v19 c) (V1 m c)).symm

/-- The unscoped buffers that are no window's array. -/
abbrev others : Finset (DevRef τ sig) := Pipeline.ucRefs τ sig \ Pipeline.arrRefs spec0

theorem others_kept (c : Dev nD) (b : DevRef τ sig) (hb : b ∈ others \ (∅ : Finset (DevRef τ sig))) : V2 m (outs m) c b = V1 m c b := by
  refine Function.update_of_ne (fun h => ?_) _ _
  subst h
  refine (Finset.mem_sdiff.mp (Finset.mem_sdiff.mp hb).1).2 ?_
  exact Finset.mem_map_of_mem _ (Finset.mem_image.mpr ⟨(5 : Fin 6), Finset.mem_univ _, rfl⟩)

/-! ## Opening a device's own cells -/

/-- A device's own counters, by row and peer. -/
abbrev osem (p : Fin 4 × Dev nD) : SemLoc sig := .dma (xs p.1 p.2)
theorem own_facts : Pipeline.OwnSemFacts spec0 osem := by decide

theorem four_rows (Φ : Fin 4 × Dev nD → sProp 𝕄) :
    bigSep Finset.univ Φ = iprop((bigSep Finset.univ fun j => Φ (0, j)) ∗ (bigSep Finset.univ fun j => Φ (1, j))
      ∗ (bigSep Finset.univ fun j => Φ (2, j)) ∗ (bigSep Finset.univ fun j => Φ (3, j))) := by
  rw [bigSep_univ_prod]
  exact bigSep_univ_eq_bigSepL [(0 : Fin 4), (1 : Fin 4), (2 : Fin 4), (3 : Fin 4)] (by decide) (by decide) _

section Open

variable (ch : Dev nD → Dev nD → Blk F) (rb : Dev nD → Blk F) (K : GSem nD τ sig → ℕ) (c : Dev nD)

theorem open_all :
    iprop(invs ch rb K ∗ (bigSep Finset.univ fun p : Fin 4 × Dev nD => openTok ER (xCell p.1 c p.2)) ∗ Pipeline.ownSems0 osem c)
      ⊢ (|={Set.univ}=> ((bigSep Finset.univ fun p : Fin 4 × Dev nD => atPos ER (xCell p.1 c p.2) 0 ∅ 0)
        ∗ bigSep Finset.univ fun p : Fin 4 × Dev nD => reached ER (xCell p.1 c p.2) 0) : sProp 𝕄) := by
  unfold Pipeline.ownSems0
  rw [← bigSep_sep', ← bigSep_sep']
  refine BIBase.Entails.trans (bigSep_with_persistent (R := invs ch rb K)
    (Ψ := fun p : Fin 4 × Dev nD => iprop(|={Set.univ}=> (atPos ER (xCell p.1 c p.2) 0 ∅ 0 ∗ reached ER (xCell p.1 c p.2) 0))) fun p _ => ?_) (bigSep_fupd _ _)
  iintro ⟨#HI, Ho, Hs⟩
  iapply (Rounds.cell_open ER (rd ch rb) (g := xCell p.1 c p.2) (Set.mem_univ (K (xCell p.1 c p.2))))
  isplitr
  · iapply (invs_x ch rb K p.1 c p.2); iexact HI
  isplitl [Ho]; · iexact Ho
  iexact Hs

end Open

/-- What the launch deals device `c` for the exchange. -/
def dealt (c : Dev nD) : sProp 𝕄 :=
  iprop((∃ K, invs (chV (stagedIns m)) (rbV (stagedIns m)) K) ∗ (bigSep Finset.univ fun t : Dev nD => reached ER (barCell t) 0)
    ∗ (bigSep Finset.univ fun p : Fin 4 × Dev nD => openTok ER (xCell p.1 c p.2))
    ∗ bigSep (peers c) (peerTok (F := F) c) ∗ (cred (tallyAt (barCell c) () 7) ∗ atPos ER (barCell c) 0 ∅ 0)
    ∗ (bigSep (peers c) fun t => cred (tallyAt (xCell 1 c t) () N)) ∗ (bigSep (peers c) fun t => cred (tallyAt (xCell 3 c t) () N)))

/-- With its own cells open, it can start the exchange. -/
def opened (c : Dev nD) : sProp 𝕄 := iprop(∃ K, theCtx m K ∗ marks c ∗ exchStart (F := F) c)

theorem opens (c : Dev nD) : iprop(dealt m c ∗ Pipeline.ownSems0 osem c ∗ levAts L lv) ⊢ (|={Set.univ}=> opened m c : sProp 𝕄) := by
  unfold dealt opened marks exchStart theCtx ctx atRow
  iintro ⟨⟨⟨%K, #HI⟩, #Hr, Ho, Ht, Hb, H1, H3⟩, Hs, #Hlev⟩
  imod (open_all (chV (stagedIns m)) (rbV (stagedIns m)) K c) $$ [Ho Hs] with ⟨Hat, #Hre⟩
  · isplitr; · iexact HI
    isplitl [Ho]; · iexact Ho
    iexact Hs
  imodintro
  iexists K
  isplitr
  · isplitr; · iexact HI
    iexact Hlev
  isplitr
  · isplitr; · iexact Hr
    iexact Hre
  isplitl [Ht]; · iexact Ht
  isplitl [Hb]; · iexact Hb
  isplitl [Hat]
  · iapply (Entails.of_eq (four_rows (F := F) fun p => atPos ER (xCell p.1 c p.2) 0 ∅ 0)) $$ Hat
  isplitl [H1]; · iexact H1
  iexact H3

theorem enters (c : Dev nD) :
    iprop(Pipeline.scopedRest spec0 c ∗ (∃ r, prngReg c r) ∗ StableHlo.held (c.tc : Thread nD τ) ∅ (V1 m c) ∗ opened m c) ⊢ before₀ m c := by
  unfold before₀ opened
  iintro ⟨Hs, Hp, -, HX⟩
  isplitl [HX]; · iexact HX
  isplitl [Hs]; · iapply (scratches_of_rest (F := F) c); iexact Hs
  iexact Hp

theorem exits (c : Dev nD) :
    after₀ (F := F) c ⊢ iprop(Pipeline.scopedRest spec0 c ∗ (∃ r, prngReg c r) ∗ StableHlo.held (c.tc : Thread nD τ) ∅ (V2 m (outs m) c)
      ∗ Pipeline.ownSems0 osem c ∗ semVal (barCell c) 0) := by
  unfold after₀ zeros zeroRow StableHlo.held Pipeline.ownSems0
  rw [bigSep_empty]
  iintro ⟨⟨Hz, Hb⟩, Hs, Hp⟩
  isplitl [Hs]; · iapply (rest_of_scratches (F := F) c); iexact Hs
  isplitl [Hp]; · iexact Hp
  isplitr; · iempintro
  isplitl [Hz]
  · iapply (Entails.of_eq (four_rows (F := F) fun p => semVal (xCell p.1 c p.2) 0).symm) $$ Hz
  · iexact Hb

/-! ## The record -/

theorem stage_level (c : Dev nD) (w : Fin 6) (s : Fin (cfg0.win w).nbuf) : lv ((c : Thread nD τ), .dma ((cfg0.win w).sem s)) () ≤ 0 := by
  revert c w; decide

theorem levels : Pipeline.LevelCutOwed (pcfgs (F := F)) adm (pdats m) () L lv 0 (fun _ => 0) where
  hι c w s := by rw [L_tc]; exact Finset.mem_singleton_self _
  hιb c w s := stage_level c w s
  hD c t g i h := by
    have h' : 0 < O₀ c g i := by
      match t, h with
      | ⟨0, _⟩, h => exact h
      | ⟨_ + 1, _⟩, h => exact absurd h (Nat.lt_irrefl 0)
    exact ⟨by unfold L; rw [if_pos (O₀_pos h').1]; exact Finset.mem_singleton_self _, (O₀_pos h').2⟩

set_option backward.isDefEq.respectTransparency.types false in
/-- The region's record. -/
def reg0 : Pipeline.RegionSeg (pcfgs (F := F)) adm (pdats m) () defs₀ Variants.none L lv 0 :=
  Pipeline.RegionSeg.ofTalk (pcfgs (F := F)) adm (pdats m) () defs₀ Variants.none L lv 0 osem own_facts
    ∅ others (Finset.empty_subset _) launch0.toP rfl (fun c => (body_obligation m c).loose)
    (fun _ => 0) O₀ (fun c => (zero_add (O₀ c)).symm) (fun _ => rfl) (fun _ => rfl) (share_full m)
    (V1 m) (V2 m (outs m)) (others_kept m)
    (dealt m) (fun c => semVal (barCell c) 0) (opened m) (fun c => semVal (barCell c) 0) (opens m) (enters m) (exits m)
    (fun c => by iintro H; imodintro; iexact H)
    (fun _ => 0) (levels m) (fun _ => iprop(emp))
    (fun _ _ => rfl) (leaves m)

end Cert.Proof

end
-- ==== Proof.Deal.lean ====
/-
# What the launch deals

The exchange's cells and the rights to pay them, made at launch and handed to the devices; the credit each device has
at its own cells from what the others owe.
-/
module

public import proofs.«01_k».proof.Proof.Segment

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## What is owed at each cell -/

theorem owe_off {K : Dev nD → GSem nD τ sig} {n : ℕ} {T : Finset (Dev nD)} {g : GSem nD τ sig} (h : ∀ t ∈ T, g ≠ K t) : owe K n T g () = 0 :=
  Nat.eq_zero_of_not_pos fun hp => let ⟨t, ht, e⟩ := owe_pos hp; h t ht e

theorem owe_at {K : Dev nD → GSem nD τ sig} {n : ℕ} {T : Finset (Dev nD)} (hK : Function.Injective K) (t : Dev nD) :
    owe K n T (K t) () = if t ∈ T then n else 0 := by
  by_cases h : t ∈ T
  · rw [if_pos h, owe_erase K n h, Pi.add_apply, Finsupp.add_apply, tallyAt_apply, if_pos ⟨rfl, rfl⟩,
      owe_off (fun t' ht' e => (Finset.mem_erase.mp ht').1 (hK e).symm), Nat.zero_add]
  · rw [if_neg h, owe_off fun t' ht' e => h (by rw [hK e]; exact ht')]

theorem dev_of_cell {c d : Dev nD} {s s' : SemLoc sig} (h : ((c : Thread nD τ), s) = (((d : Thread nD τ), s') : GSem nD τ sig)) : c = d :=
  congrArg (fun g : GSem nD τ sig => g.1.1) h
theorem sem_of_cell {c d : Dev nD} {s s' : SemLoc sig} (h : ((c : Thread nD τ), s) = (((d : Thread nD τ), s') : GSem nD τ sig)) : s = s' :=
  congrArg (fun g : GSem nD τ sig => g.2) h
theorem xs_inj {k k' : Fin 4} {j j' : Dev nD} (h : (SemLoc.dma (xs k j) : SemLoc sig) = .dma (xs k' j')) : k = k' ∧ j = j' := by
  have e : xs k j = xs k' j' := SemLoc.dma.inj h
  exact ⟨by rw [← rowOf_xs k j, e, rowOf_xs], by rw [← laneOf_xs k j, e, laneOf_xs]⟩

theorem bar_ne_x (c d : Dev nD) (k : Fin 4) (j : Dev nD) : barCell c ≠ xCell k d j := fun h => by cases sem_of_cell h
theorem row_ne {k k' : Fin 4} (hk : k ≠ k') (c d j j' : Dev nD) : xCell k c j ≠ xCell k' d j' := fun h => hk (xs_inj (sem_of_cell h)).1

theorem O₀_bar (d c : Dev nD) : O₀ d (barCell c) () = if c ∈ peers d then 1 else 0 := by
  unfold O₀
  rw [Pi.add_apply, Finsupp.add_apply, Pi.add_apply, Finsupp.add_apply, owe_off (K := fun t => xCell 3 t d) (fun t _ => bar_ne_x c t 3 d),
    owe_off (K := fun t => xCell 1 t d) (fun t _ => bar_ne_x c t 1 d), Nat.zero_add, owe_at (K := barCell) (fun a b h => dev_of_cell h)]

theorem O₀_chunk (d c t : Dev nD) (h : t ≠ c) : O₀ d (xCell 1 c t) () = if d = t then N else 0 := by
  unfold O₀
  rw [Pi.add_apply, Finsupp.add_apply, Pi.add_apply, Finsupp.add_apply, owe_off (K := fun t => xCell 3 t d) (fun t' _ => row_ne (by decide) c t' t d),
    owe_off (K := barCell) (fun t' _ => (bar_ne_x t' c 1 t).symm), Nat.zero_add, Nat.add_zero]
  by_cases e : d = t
  · subst e
    rw [if_pos rfl, owe_at (K := fun t => xCell 1 t d) (fun a b h => dev_of_cell h) c, if_pos (Finset.mem_erase.mpr ⟨h.symm, Finset.mem_univ _⟩)]
  · rw [if_neg e, owe_off fun t' _ h' => e (xs_inj (sem_of_cell h')).2.symm]

theorem O₀_sum (d c t : Dev nD) (h : t ≠ c) : O₀ d (xCell 3 c t) () = if d = t then N else 0 := by
  unfold O₀
  rw [Pi.add_apply, Finsupp.add_apply, Pi.add_apply, Finsupp.add_apply,
    owe_off (K := fun t => xCell 1 t d) (fun t' _ => row_ne (by decide) c t' t d),
    owe_off (K := barCell) (fun t' _ => (bar_ne_x t' c 3 t).symm), Nat.add_zero]
  by_cases e : d = t
  · subst e
    rw [if_pos rfl, owe_at (K := fun t => xCell 3 t d) (fun a b h => dev_of_cell h) c, if_pos (Finset.mem_erase.mpr ⟨h.symm, Finset.mem_univ _⟩)]
  · rw [if_neg e, owe_off fun t' _ h' => e (xs_inj (sem_of_cell h')).2.symm]

theorem credit_of {g : GSem nD τ sig} {n : ℕ} (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem credit_bar (c : Dev nD) : tallyOn (barCell c) (launchCredit (Pipeline.owing O₀) 0 (barCell c)) = (tallyAt (barCell c) () 7 : CellTallies nD τ sig Unit) :=
  credit_of (by rw [Finset.sum_congr rfl fun d _ => O₀_bar d c]; revert c; decide)
theorem credit_chunk (c t : Dev nD) (h : t ≠ c) :
    tallyOn (xCell 1 c t) (launchCredit (Pipeline.owing O₀) 0 (xCell 1 c t)) = (tallyAt (xCell 1 c t) () N : CellTallies nD τ sig Unit) :=
  credit_of (by rw [Finset.sum_congr rfl fun d _ => O₀_chunk d c t h, Finset.sum_ite_eq' Finset.univ t fun _ => N, if_pos (Finset.mem_univ _)])
theorem credit_sum (c t : Dev nD) (h : t ≠ c) :
    tallyOn (xCell 3 c t) (launchCredit (Pipeline.owing O₀) 0 (xCell 3 c t)) = (tallyAt (xCell 3 c t) () N : CellTallies nD τ sig Unit) :=
  credit_of (by rw [Finset.sum_congr rfl fun d _ => O₀_sum d c t h, Finset.sum_ite_eq' Finset.univ t fun _ => N, if_pos (Finset.mem_univ _)])

/-! ## The cells and the rights, listed -/

def barEmb : Dev nD ↪ GSem nD τ sig := ⟨fun c => barCell c, fun _ _ h => dev_of_cell h⟩
def ownEmb : Fin 4 × Dev nD ↪ SemLoc sig := ⟨osem, fun p q h => Prod.ext (xs_inj h).1 (xs_inj h).2⟩
def xEmb : Dev nD × (Fin 4 × Dev nD) ↪ GSem nD τ sig :=
  ⟨fun x => xCell x.2.1 x.1 x.2.2, fun x y h => Prod.ext (dev_of_cell h) (ownEmb.injective (sem_of_cell h))⟩

/-- The barrier cells, and the transfer cells. -/
abbrev barCells : Finset (GSem nD τ sig) := Finset.univ.map barEmb
abbrev xCells : Finset (GSem nD τ sig) := Finset.univ.map xEmb

theorem cells_apart : Disjoint barCells xCells := by
  rw [Finset.disjoint_left]
  intro g h₁ h₂
  obtain ⟨c, -, rfl⟩ := Finset.mem_map.mp h₁
  obtain ⟨x, -, h⟩ := Finset.mem_map.mp h₂
  exact bar_ne_x _ _ _ _ h.symm

theorem cellAt_mem (x : Cid) : cellAt x ∈ barCells ∪ xCells := by
  rcases x with ⟨c, _ | ⟨k, j⟩⟩
  · exact Finset.mem_union_left _ (Finset.mem_map_of_mem barEmb (Finset.mem_univ c))
  · exact Finset.mem_union_right _ (Finset.mem_map_of_mem xEmb (Finset.mem_univ (c, k, j)))

/-- The rights `c` has towards `t`: to signal it, and for either exchange the two a transfer uses. -/
def rightAt (x : (Dev nD × Dev nD) × Fin 5) : GSem nD τ sig × ℕ × Dev nD :=
  match x.2 with
  | 0 => (barCell x.1.2, 0, x.1.1)
  | 1 => (xCell 0 x.1.1 x.1.2, 0, x.1.2)
  | 2 => (xCell 1 x.1.2 x.1.1, 0, x.1.1)
  | 3 => (xCell 2 x.1.1 x.1.2, 0, x.1.2)
  | 4 => (xCell 3 x.1.2 x.1.1, 0, x.1.1)

/-- Which right it is can be read off. -/
def rightOf (y : GSem nD τ sig × ℕ × Dev nD) : (Dev nD × Dev nD) × Fin 5 :=
  match y.1.2 with
  | .reg _ => ((y.2.2, y.1.1.1), 0)
  | .dma i => match rowOf i with
    | 0 => ((y.1.1.1, y.2.2), 1)
    | 1 => ((y.2.2, y.1.1.1), 2)
    | 2 => ((y.1.1.1, y.2.2), 3)
    | 3 => ((y.2.2, y.1.1.1), 4)

theorem rightOf_rightAt (x : (Dev nD × Dev nD) × Fin 5) : rightOf (rightAt x) = x := by
  obtain ⟨⟨c, t⟩, k⟩ := x
  fin_cases k <;> simp only [rightAt, rightOf, rowOf_xs] <;> rfl

def rightEmb : (Dev nD × Dev nD) × Fin 5 ↪ GSem nD τ sig × ℕ × Dev nD := ⟨rightAt, Function.LeftInverse.injective rightOf_rightAt⟩
abbrev rights : Finset (GSem nD τ sig × ℕ × Dev nD) := Finset.univ.map rightEmb

/-- All rights, dealt. -/
theorem rights_dealt :
    (bigSep rights fun x => (dutyTok ER x.1 x.2.1 x.2.2 : sProp 𝕄)) ⊢ bigSep Finset.univ fun c : Dev nD => bigSep (peers c) (peerTok (F := F) c) := by
  unfold rights
  rw [bigSep_map, bigSep_univ_prod, bigSep_univ_prod]
  refine bigSep_mono fun c _ => (bigSep_subset (Finset.erase_subset c Finset.univ)).trans (bigSep_mono fun t _ => ?_)
  rw [bigSep_univ_eq_bigSepL [(0 : Fin 5), (1 : Fin 5), (2 : Fin 5), (3 : Fin 5), (4 : Fin 5)] (by decide) (by decide)]
  unfold peerTok pairTok
  show iprop(dutyTok ER (barCell t) 0 c ∗ dutyTok ER (xCell 0 c t) 0 t ∗ dutyTok ER (xCell 1 t c) 0 c ∗ dutyTok ER (xCell 2 c t) 0 t ∗ dutyTok ER (xCell 3 t c) 0 c)
    ⊢ iprop(dutyTok ER (barCell t) 0 c ∗ (dutyTok ER (xCell 0 c t) 0 t ∗ dutyTok ER (xCell 1 t c) 0 c) ∗ (dutyTok ER (xCell 2 c t) 0 t ∗ dutyTok ER (xCell 3 t c) 0 c))
  iintro ⟨H0, H1, H2, H3, H4⟩
  isplitl [H0]; · iexact H0
  isplitl [H1 H2]
  · isplitl [H1]; · iexact H1
    iexact H2
  · isplitl [H3]; · iexact H3
    iexact H4

/-- A device's credit at its own cells. -/
theorem credits (c : Dev nD) : (Pipeline.launchCred O₀ c : sProp 𝕄) ⊢ iprop(cred (tallyAt (barCell c) () 7)
    ∗ (bigSep (peers c) fun t => cred (tallyAt (xCell 1 c t) () N)) ∗ (bigSep (peers c) fun t => cred (tallyAt (xCell 3 c t) () N))) := by
  unfold Pipeline.launchCred
  rw [bigSep_univ_at _ (SemLoc.reg barS : SemLoc sig), credit_bar]
  refine sep_mono_right ?_
  refine (bigSep_subset (t := Finset.univ.map ownEmb) (fun s hs => ?_)).trans ?_
  · obtain ⟨p, -, rfl⟩ := Finset.mem_map.mp hs
    exact Finset.mem_erase.mpr ⟨fun h => (nomatch h), Finset.mem_univ _⟩
  rw [bigSep_map, four_rows]
  have h1 : (bigSep Finset.univ fun j : Dev nD => cred (tallyOn (xCell 1 c j) (launchCredit (Pipeline.owing O₀) 0 (xCell 1 c j))) : sProp 𝕄)
      ⊢ bigSep (peers c) fun t => cred (tallyAt (xCell 1 c t) () N) :=
    (bigSep_subset (Finset.erase_subset c Finset.univ)).trans (bigSep_mono fun t ht => Entails.of_eq (congrArg cred (credit_chunk c t (Finset.mem_erase.mp ht).1)))
  have h3 : (bigSep Finset.univ fun j : Dev nD => cred (tallyOn (xCell 3 c j) (launchCredit (Pipeline.owing O₀) 0 (xCell 3 c j))) : sProp 𝕄)
      ⊢ bigSep (peers c) fun t => cred (tallyAt (xCell 3 c t) () N) :=
    (bigSep_subset (Finset.erase_subset c Finset.univ)).trans (bigSep_mono fun t ht => Entails.of_eq (congrArg cred (credit_sum c t (Finset.mem_erase.mp ht).1)))
  exact sep_elim_right.trans ((sep_mono_left h1).trans (sep_mono_right (sep_elim_right.trans h3)))

end Cert.Proof

end
-- ==== Proof.Launch.lean ====
/-
# The run

Every fair execution of @main on the eight devices ends, each argument as it was, the result array at the output the
kernel writes, every semaphore counter at zero.
-/
module

public import proofs.«01_k».proof.Proof.Deal

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The launch -/

/-- The launch element: the staging cells' and the exchange's. -/
def u₀ : UU :=
  (initOf (Pipeline.cells (Pipeline.pin (pcfgs (F := F)) adm) cellOf_inj) (Pipeline.launchToks (Pipeline.pin (pcfgs (F := F)) adm) cellOf_inj),
    launchOf barCells xCells rights)

/-- The exchange's element, kept by device 0 until all devices' shares are made at once. -/
def G (c : Dev nD) : sProp 𝕄 := if c = 0 then BI.own (ER (launchOf barCells xCells rights)) else iprop(emp)

theorem all_G : bigSep Finset.univ (G (F := F)) = (BI.own (ER (launchOf barCells xCells rights)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

theorem bar_counter (c : Dev nD) : (unscopedSems0 c : sProp 𝕄) = semVal (barCell c) 0 := by
  unfold unscopedSems0
  rw [bigSep_eq_bigSepL_of_eq [SemLoc.reg barS] (by decide) (by decide)]
  rfl

/-- What a device has beside its buffers before the kernel: its part in the exchange, its debts, a generator register. -/
def restBefore (c : Dev nD) : sProp 𝕄 := iprop(dealt m c ∗ debt c (O₀ c) ∗ ∃ r, prngReg c r)
/-- What it has after: the barrier counter at zero, no debt. -/
def restAfter (c : Dev nD) : sProp 𝕄 := iprop(semVal (barCell c) 0 ∗ debt (F := F) c 0)

abbrev rest : Fin 2 → Dev nD → sProp 𝕄 := fun | 0 => restBefore m | 1 => restAfter

/-- What of a device's launch share is its alone. -/
def share₀ (c : Dev nD) : sProp 𝕄 :=
  iprop(StableHlo.held (c : Thread nD τ) (Pipeline.ucRefs τ sig) (V0 m c) ∗ (cred (tallyAt (barCell c) () 7)
    ∗ (bigSep (peers c) fun t => cred (tallyAt (xCell 1 c t) () N)) ∗ (bigSep (peers c) fun t => cred (tallyAt (xCell 3 c t) () N)))
    ∗ debt c (O₀ c) ∗ ∃ r, prngReg c r)

/-- What the exchange's element gives it. -/
def portion (c : Dev nD) : sProp 𝕄 :=
  iprop(atPos ER (barCell c) 0 ∅ 0 ∗ (bigSep Finset.univ fun p : Fin 4 × Dev nD => openTok ER (xCell p.1 c p.2)) ∗ bigSep (peers c) (peerTok (F := F) c))

/-- What everyone may consult: all cells' invariants, and that the barrier cells stand at their first round. -/
def records (K : GSem nD τ sig → ℕ) : sProp 𝕄 :=
  iprop(invs (chV (stagedIns m)) (rbV (stagedIns m)) K ∗ bigSep Finset.univ fun t : Dev nD => reached ER (barCell t) 0)

instance records_persistent (K : GSem nD τ sig → ℕ) : BI.Persistent (records m K) := by unfold records; infer_instance

theorem first_state (K : GSem nD τ sig → ℕ) (c : Dev nD) :
    iprop(records m K ∗ (portion c ∗ share₀ m c)) ⊢ iprop(StableHlo.held (c : Thread nD τ) (Pipeline.ucRefs τ sig) (V0 m c) ∗ rest m 0 c) := by
  show _ ⊢ iprop(StableHlo.held (c : Thread nD τ) (Pipeline.ucRefs τ sig) (V0 m c) ∗ restBefore m c)
  unfold records portion share₀ restBefore dealt
  iintro ⟨⟨#HI, #Hr⟩, ⟨Hat, Ho, Ht⟩, Hh, ⟨Hb, H1, H3⟩, HO, Hp⟩
  isplitl [Hh]; · iexact Hh
  isplitr [HO Hp]
  · isplitr; · iexists K; iexact HI
    isplitr; · iexact Hr
    isplitl [Ho]; · iexact Ho
    isplitl [Ht]; · iexact Ht
    isplitl [Hb Hat]
    · isplitl [Hb]; · iexact Hb
      iexact Hat
    isplitl [H1]; · iexact H1
    iexact H3
  · isplitl [HO]; · iexact HO
    iexact Hp

section Init

variable (ρ : Dev nD → PrngReg)

theorem core_share (c : Dev nD) :
    iprop(unscopedBufs c (fun b => m ((c : Thread nD τ).loc b)) ∗ unscopedSems0 c ∗ owes (c : Thread nD τ) (O₀ c) ∅
        ∗ Pipeline.launchCred O₀ c ∗ prngReg c (ρ c) ∗ G (F := F) c)
      ⊢ iprop(share₀ m c ∗ (semVal (barCell c) 0 ∗ G (F := F) c)) := by
  rw [bar_counter, show unscopedBufs c (fun b => m ((c : Thread nD τ).loc b)) = StableHlo.held (c : Thread nD τ) (Pipeline.ucRefs τ sig) (V0 m c) from
    Pipeline.unscopedBufs_held (Ix := Unit) c (V0 m c)]
  unfold share₀ debt
  iintro ⟨Hh, Hus, HO, Hcr, Hp, HG⟩
  isplitr [Hus HG]
  · isplitl [Hh]; · iexact Hh
    isplitl [Hcr]; · iapply (credits (F := F) c); iexact Hcr
    isplitl [HO]; · iexists ∅; iexact HO
    iexists (ρ c); iexact Hp
  · isplitl [Hus]; · iexact Hus
    iexact HG

/-- All devices' first states, made at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (fun c : Dev nD => iprop(StableHlo.held (c : Thread nD τ) (Pipeline.ucRefs τ sig) (V0 m c) ∗ rest m 0 c)) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep xCells (fun g => (openTok ER g : sProp 𝕄))
      ⊢ bigSep Finset.univ (fun c : Dev nD => bigSep Finset.univ fun p : Fin 4 × Dev nD => (openTok ER (xCell p.1 c p.2) : sProp 𝕄)) :=
    Entails.of_eq (by rw [bigSep_map, bigSep_univ_prod]; rfl)
  have hinv (K : GSem nD τ sig → ℕ) : bigSep (barCells ∪ xCells) (fun g => (cellInv ER (rd (chV (stagedIns m)) (rbV (stagedIns m))) (K g) g : sProp 𝕄))
      ⊢ invs (chV (stagedIns m)) (rbV (stagedIns m)) K :=
    bigSep_intro_persistent fun x _ => bigSep_elim (i := cellAt x) (cellAt_mem x)
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ iprop(bigSep Finset.univ (share₀ m) ∗ (bigSep Finset.univ (fun c : Dev nD => (semVal (barCell c) 0 : sProp 𝕄)) ∗ bigSep Finset.univ (G (F := F)))) := by
    rw [← bigSep_sep', ← bigSep_sep']
    exact bigSep_mono fun c _ => core_share m ρ c
  iintro ⟨H, -⟩
  ihave H' := hall $$ H
  icases H' with ⟨HB, Hv, HG⟩
  ihave Hu := (Entails.of_eq (all_G (F := F))) $$ HG
  imod (Rounds.fund_launch ER (rd (chV (stagedIns m)) (rbV (stagedIns m))) cells_apart (fun g _ h => h) rights) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(portion c ∗ share₀ m c)) fun c _ => first_state m K c)
  isplitr
  · unfold records
    isplitr
    · iapply (hinv K); iexact Hinv
    · iapply hre; iexact Hr
  rw [bigSep_sep']
  isplitr [HB]
  · unfold portion
    rw [bigSep_sep', bigSep_sep']
    isplitl [Hat]; · iapply hat $$ Hat
    isplitl [Hopen]; · iapply hopen $$ Hopen
    iapply (rights_dealt (F := F)) $$ Htok
  · iexact HB

end Init

/-! ## The region between the host operations -/

theorem arrays_held (c : Dev nD) (V : Valuation τ sig (Elt F)) :
    (StableHlo.held (c : Thread nD τ) (Pipeline.ucRefs τ sig) V : sProp 𝕄)
      = iprop(StableHlo.held (c : Thread nD τ) (Pipeline.arrRefs spec0) V ∗ StableHlo.held (c : Thread nD τ) others V) :=
  StableHlo.held_sub_split (c : Thread nD τ) (Pipeline.arrRefs_sub_ucRefs spec0 (by decide)) V

theorem into_region (c : Dev nD) : iprop(StableHlo.held (c : Thread nD τ) (Pipeline.ucRefs τ sig) (V1 m c) ∗ rest m 0 c) ⊢ (reg0 m).pre c := by
  show iprop(StableHlo.held (c : Thread nD τ) (Pipeline.ucRefs τ sig) (V1 m c) ∗ restBefore m c)
    ⊢ iprop(StableHlo.held (c.tc : Thread nD τ) (Pipeline.arrRefs spec0) (V1 m c) ∗ (∃ r, prngReg c r)
      ∗ (StableHlo.held (c.tc : Thread nD τ) others (V1 m c) ∗ emp) ∗ dealt m c ∗ ∃ Wd, owes (c : Thread nD τ) (0 + O₀ c) Wd)
  rw [arrays_held, zero_add]
  unfold restBefore debt
  iintro ⟨⟨Ha, Ho⟩, Hd, HO, Hp⟩
  isplitl [Ha]; · iexact Ha
  isplitl [Hp]; · iexact Hp
  isplitl [Ho]
  · isplitl [Ho]; · iexact Ho
    iempintro
  isplitl [Hd]; · iexact Hd
  iexact HO

theorem out_of_region (c : Dev nD) : (reg0 m).post c ⊢ iprop(StableHlo.held (c : Thread nD τ) (Pipeline.ucRefs τ sig) (V2 m (outs m) c) ∗ rest m 1 c) := by
  show iprop(StableHlo.held (c.tc : Thread nD τ) (Pipeline.arrRefs spec0) (V2 m (outs m) c) ∗ (∃ r, prngReg c r)
      ∗ (StableHlo.held (c.tc : Thread nD τ) others (V2 m (outs m) c) ∗ emp) ∗ semVal (barCell c) 0 ∗ ∃ Wd, owes (c : Thread nD τ) (0 : CellTallies nD τ sig Unit) Wd)
    ⊢ iprop(StableHlo.held (c : Thread nD τ) (Pipeline.ucRefs τ sig) (V2 m (outs m) c) ∗ restAfter c)
  rw [arrays_held]
  unfold restAfter debt
  iintro ⟨Ha, -, ⟨Ho, -⟩, Hb, HO⟩
  isplitl [Ha Ho]
  · isplitl [Ha]; · iexact Ha
    iexact Ho
  isplitl [Hb]; · iexact Hb
  iexact HO

/-! ## The run -/

/-- The last state. -/
abbrev lastState (c : Dev nD) : sProp 𝕄 :=
  iprop(StableHlo.held (c : Thread nD τ) (Pipeline.ucRefs τ sig) (V3 m (outs m) c) ∗ semVal (barCell c) 0)

theorem only_bar : ∀ sm : SemLoc sig, sm.isScoped .tc = false → sm = .reg barS := by decide

/-- A device's memory read off its last state. -/
def reads (c : Dev nD) (s : MemSt nD τ sig (Elt F)) : Prop :=
  (∀ b : Ref sig .tc, b.isScoped = false → s.mem ((c : Thread nD τ).loc b) = V3 m (outs m) c b) ∧ s.sem (barCell c) = 0

set_option backward.isDefEq.respectTransparency.types false in
/-- The run: it ends, every unscoped buffer of every device at what the operations and the kernel compute, every counter at zero. -/
theorem run (ρ : Dev nD → PrngReg) : θ_run defs (onTc (τ := τ) (main (F := F))) ⟨m, fun _ => 0, ρ⟩
    (fun r => (∀ (c : Dev nD) (b : Ref sig .tc), b.isScoped = false → r.2.mem ((c : Thread nD τ).loc b) = V3 m (outs m) c b) ∧ r.2.sem = fun _ => 0) :=
  Pipeline.θ_run_regions_kit_dev_sems (pcfgs (F := F)) adm (pdats m) () cellOf_inj EP defs₀ Variants.none L lv m ρ main
    (fun c => segs m (outs m) Variants.none L lv (rest m) () (pdats m) (reg0 m) c)
    (fun c Q => by
      rewrite [main_chain c, Pipeline.Seg.run_eq_chain, show (segs m (outs m) Variants.none L lv (rest m) () (pdats m) (reg0 m) c).map Pipeline.Seg.prog
        = [StableHlo.seq (hostOps0 c), Prog.lift (.customCall (Pipeline.entry 0) ()), StableHlo.seq hostOps1] from rfl]
      exact .rfl)
    (fun c => by simp only [segs, Pipeline.Seg.pipes_host, Pipeline.Seg.pipes_region, Pipeline.Seg.pipes_nil]; decide)
    (O₀ := O₀) (hL := L_of_ne) (G := G (F := F)) (u₀ := u₀ (F := F))
    (hu₀ := by
      unfold u₀
      iintro Hu
      ihave H := (ownU_pair _ _) $$ Hu
      icases H with ⟨HP, HX⟩
      imodintro
      isplitl [HP]; · iexact HP
      rw [all_G]; iexact HX)
    (T₀ := fun c => iprop(StableHlo.held (c : Thread nD τ) (Pipeline.ucRefs τ sig) (V0 m c) ∗ rest m 0 c)) (Tₙ := lastState m)
    (hch := fun c => ⟨.rfl, into_region m c, out_of_region m c, by
      show iprop(StableHlo.held (c : Thread nD τ) (Pipeline.ucRefs τ sig) (V3 m (outs m) c) ∗ restAfter c)
        ⊢ iprop(lastState m c ∗ ∃ W, owes (c : Thread nD τ) (0 : CellTallies nD τ sig Unit) W)
      unfold restAfter debt
      iintro ⟨Hh, Hb, HO⟩
      isplitr [HO]
      · isplitl [Hh]; · iexact Hh
        iexact Hb
      · iexact HO⟩)
    (hinit := init m ρ)
    (QY := reads m)
    (hfin := fun c s' => by
      unfold lastState StableHlo.held
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh]; · iexact Hh
        iexact HSI
      icases Hr with ⟨%h, HSI⟩
      imodintro
      isplitr
      · ipureintro
        exact ⟨fun b hbs => h (Proc.devRef .tc b) (Finset.mem_filter.mpr ⟨StableHlo.devRef_mem_tcRefs b, by
          intro h'; exact Bool.false_ne_true (hbs.symm.trans h')⟩), by simpa using hb⟩
      iexact HSI)
    (hQ := fun s h hs => ⟨fun c b hb => (h c).1 b hb, sem_eq_zero hs fun c sm hsm => by
      obtain rfl := only_bar sm hsm
      exact (h c).2⟩)

end Cert.Proof

end
-- ==== Proof.Frames.lean ====
/-
# The frames

Each program ends, its arguments as they were, every semaphore counter at zero; and the ideal program's named constant is
what its rule says.
-/
module

public import proofs.«01_k».proof.Defs
public import proofs.«01_k».proof.Proof.Words
public import proofs.«01_k».proof.Proof.Launch
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Quiescent

@[expose] public section

set_option maxRecDepth 16384

noncomputable section

namespace Cert.Proof

open Idealize.ShloMosaic Idealize.ShloMosaic.TcCoe Idealize.SL.Sem Cert.KernelIdeal Cert.KernelIdeal.Gen

section Kernel

variable {F : FTy → Type} [FloatOps F] [Named F] (m : (ℓ : Loc nD τ sig) → Buf (Elt F) ℓ)

/-- The arguments and the counters after a run, and the result array's contents. -/
theorem run_kept (ρ : Dev nD → PrngReg) : θ_run defs (onTc (τ := τ) (main (F := F))) ⟨m, fun _ => 0, ρ⟩
    (fun r => (∀ c : Dev nD, r.2.mem ((c : Thread nD τ).loc main_v20) = V3 m (outs m) c main_v20
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨h.1 c main_v20 (by decide), (h.1 c main_arg0 (by decide)).trans (V3_main_arg0 m (outs m) c),
    (h.1 c main_arg1 (by decide)).trans (V3_main_arg1 m (outs m) c), (h.1 c main_arg2 (by decide)).trans (V3_main_arg2 m (outs m) c),
    (h.1 c main_arg3 (by decide)).trans (V3_main_arg3 m (outs m) c), (h.1 c main_arg4 (by decide)).trans (V3_main_arg4 m (outs m) c)⟩, h.2⟩) (run m ρ)

end Kernel

/-- The ideal kernel's frame. -/
theorem frame_ideal : Cert.quiescent_KernelIdeal := fun m ρ _ =>
  (θ_run defs _ _).mono (fun _ h => ⟨fun c => (h.1 c).2, h.2⟩) (run_kept (F := Ideal) m ρ)

/-- The same where the inputs are finite. -/
theorem frame_ideal_finite : Cert.quiescent_KernelIdeal_pre_finite_KernelIdeal := fun m ρ _ => frame_ideal m ρ trivial

attribute [local instance] namedBits

set_option backward.isDefEq.respectTransparency false in
/-- The frame of the kernel over float words: the ideal kernel's operations read over words are its own. -/
theorem frame_kernel : Cert.quiescent_Kernel := fun m ρ _ => by
  have h := run_kept (F := Bits) m ρ
  rw [same_defs, show main (F := Bits) = Cert.Kernel.main (F := Bits) from funext same_main] at h
  exact (θ_run Cert.Kernel.defs _ _).mono (fun _ h => ⟨fun c => (h.1 c).2, h.2⟩) h

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the inputs are finite. -/
theorem frame_reference_finite : Cert.quiescent_ReferenceIdeal_pre_finite_ReferenceIdeal := fun m ρ _ => frame_reference m ρ trivial

/-- The mask's value carries its name. -/
theorem mask_named : Cert.preserves_Kernel_KernelIdeal := IdealRules.named_const.statement _ _ _ _ _ rfl

end Cert.Proof

end
-- ==== Proof.Heads.lean ====
/-
# The partial product, element by element

A device's partial product read at an index over the extended reals: row `i` of batch `b` is the four heads' rows laid end to
end, times the staged rows of the output matrix; a head's row is the value rows weighted by the exponentials of the masked
scores over their sum.
-/
module

public import proofs.«01_k».proof.Proof.Values
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

section Form
variable {F : FTy → Type} [FloatOps F] [Named F]

/-- One head: its 64 query columns, its keys and its values. -/
def headF (mask : FVec F S256x256 .f32) (q : FVec F S256x64 .bf16) (k v : S1x1x256x64.Idx → Elt F .bf16) : FVec F S256x64 .f32 :=
  k0_pay6 mask q (k0_pay5 k) zeroV v

theorem slices_head (h : Fin 4) : S256x256.Slices ![0, 64 * h.val] S256x64 := by
  revert h; decide

/-- Head `h` of batch `b`. -/
def headV (I : Ins F) (b : Fin 2) (h : Fin 4) : FVec F S256x64 .f32 :=
  headF maskV (extractStridedSlice S256x64 ![0, 64 * h.val] (k0_pay2 (xAt I.x b) I.q) (slices_head h)) (kvAt I.k b h) (kvAt I.v b h)

/-- Four heads side by side. -/
def sideBySide (w : Fin 4 → FVec F S256x64 .f32) : FVec F S256x256 .f32 :=
  concatenate S256x256 1 [⟨S256x64, w 0⟩, ⟨S256x64, w 1⟩, ⟨S256x64, w 2⟩, ⟨S256x64, w 3⟩] concatenates_S256x64_S256x64_S256x64_S256x64_S256x256_d1

/-- Both halves of the partial product are one function of the batch. -/
theorem halfV_eq (I : Ins F) (b : Fin 2) : halfV I b = k0_pay15 (sideBySide (headV I b)) I.o := by
  match b with
  | 0 => rfl
  | 1 => rfl

end Form

/-- Whether key `j` is in the window of query `i`. -/
def near (i j : Fin 256) : Prop :=
  IntOp.cmpi .sle (IntOp.absi (IntOp.subi (BitVec.ofNat 32 i.val) (BitVec.ofNat 32 j.val))) 128#32 = 1#1

instance (i j : Fin 256) : Decidable (near i j) := by unfold near; infer_instance

theorem near_self (i : Fin 256) : near i i := by
  unfold near
  rw [show IntOp.subi (BitVec.ofNat 32 i.val) (BitVec.ofNat 32 i.val) = 0#32 from BitVec.sub_self _]
  decide

/-- A row's weights from its scores and mask. -/
def weights (s M : Fin 256 → EReal) (j : Fin 256) : EReal :=
  Ideal.exp (s j + M j) * Ideal.div 1 (∑ j', Ideal.exp (s j' + M j'))

/-- A row of the mask. -/
def maskRow (i j : Fin 256) : EReal := if near i j then 0 else ⊥

theorem maskV_apply (i j : Fin 256) : maskV (F := Ideal) (ix2 i j) = maskRow i j := by
  pointwise [maskV, k0_pay1, rowI, colI]
  show Scalar.select _ (0 : EReal) (⊥ : EReal) = _
  rfl

theorem headF_apply (M : FVec Ideal S256x256 .f32) (q : FVec Ideal S256x64 .bf16) (k v : S1x1x256x64.Idx → Elt Ideal .bf16)
    (i : Fin 256) (d : Fin 64) :
    headF M q k v (ix2 i d) = ∑ j : Fin 256,
      weights (fun j => ∑ t : Fin 64, q (ix2 i t) * k (ix4 0 0 j t)) (fun j => M (ix2 i j)) j * v (ix4 0 0 j d) := by
  pointwise [headF, k0_pay6, k0_pay5, zeroV]
  rfl

theorem pay2_apply (x : S1x256x512.Idx → Elt Ideal .bf16) (q : S512x256.Idx → Elt Ideal .bf16) (i e : Fin 256) :
    k0_pay2 x q (ix2 i e) = ∑ t : Fin 512, x (ix3 0 i t) * q (ix2 t e) := by
  pointwise [k0_pay2]

theorem pay15_apply (x : FVec Ideal S256x256 .f32) (o : S256x512.Idx → Elt Ideal .bf16) (i : Fin 256) (n : Fin 512) :
    k0_pay15 x o (ix2 i n) = ∑ e : Fin 256, x (ix2 i e) * o (ix2 e n) := by
  pointwise [k0_pay15]

theorem xAt_apply (X : S2x256x512.Idx → EReal) (b : Fin 2) (i : Fin 256) (t : Fin 512) :
    xAt (F := Ideal) X b (ix3 0 i t) = X (ix3 b i t) := by
  refine congrArg X (funext fun a => Fin.ext ?_)
  match a with
  | 0 => show b.val + 1 * 0 = b.val; omega
  | 1 => show 0 + 1 * i.val = i.val; omega
  | 2 => show 0 + 1 * t.val = t.val; omega

theorem kvAt_apply (X : S2x4x256x64.Idx → EReal) (b : Fin 2) (h : Fin 4) (j : Fin 256) (t : Fin 64) :
    kvAt (F := Ideal) X b h (ix4 0 0 j t) = X (ix4 b h j t) := by
  refine congrArg X (funext fun a => Fin.ext ?_)
  match a with
  | 0 => show b.val + 1 * 0 = b.val; omega
  | 1 => show h.val + 1 * 0 = h.val; omega
  | 2 => show 0 + 1 * j.val = j.val; omega
  | 3 => show 0 + 1 * t.val = t.val; omega

/-- The column of the query projection that head `h` reads at `t`. -/
def colOf (h : Fin 4) (t : Fin 64) : Fin 256 := ⟨64 * h.val + t.val, by omega⟩

/-- The scores of a row. -/
def scoreRow (I : Ins Ideal) (b : Fin 2) (h : Fin 4) (i j : Fin 256) : EReal :=
  ∑ t : Fin 64, (∑ u : Fin 512, I.x (ix3 b i u) * I.q (ix2 u (colOf h t))) * I.k (ix4 b h j t)

/-- An element of a head's result. -/
def headAt (I : Ins Ideal) (b : Fin 2) (h : Fin 4) (i : Fin 256) (d : Fin 64) : EReal :=
  ∑ j : Fin 256, weights (scoreRow I b h i) (maskRow i) j * I.v (ix4 b h j d)

theorem headV_apply (I : Ins Ideal) (b : Fin 2) (h : Fin 4) (i : Fin 256) (d : Fin 64) :
    headV I b h (ix2 i d) = headAt I b h i d := by
  have e (t : Fin 64) : extractStridedSlice S256x64 ![0, 64 * h.val] (k0_pay2 (xAt I.x b) I.q) (slices_head h) (ix2 i t)
      = ∑ u : Fin 512, I.x (ix3 b i u) * I.q (ix2 u (colOf h t)) := by
    have e' : extractStridedSlice S256x64 ![0, 64 * h.val] (k0_pay2 (xAt I.x b) I.q) (slices_head h) (ix2 i t)
        = k0_pay2 (xAt I.x b) I.q (ix2 i (colOf h t)) := by
      pointwise
      rfl
    rw [e', pay2_apply]
    exact Finset.sum_congr rfl fun u _ => by rw [xAt_apply]
  unfold headV headAt scoreRow
  rw [headF_apply]
  simp only [e, kvAt_apply, maskV_apply]

/-- The head that column `e` of the heads' results belongs to, and its column there. -/
def headNo (e : Fin 256) : Fin 4 := ⟨e.val / 64, by omega⟩
def headCol (e : Fin 256) : Fin 64 := ⟨e.val % 64, by omega⟩

theorem sideBySide_apply (w : Fin 4 → FVec Ideal S256x64 .f32) (i e : Fin 256) :
    sideBySide w (ix2 i e) = w (headNo e) (ix2 i (headCol e)) := by
  have key (h : Fin 4) (c : Fin 64) (hc : e.val = 64 * h.val + c.val) : w h (ix2 i c) = w (headNo e) (ix2 i (headCol e)) := by
    rw [show headNo e = h from Fin.ext (show e.val / 64 = h.val by omega), show headCol e = c from Fin.ext (show e.val % 64 = c.val by omega)]
  have he := e.isLt
  pointwise [sideBySide]
  by_cases h0 : e.val < 64
  · rw [dif_pos h0]; exact key 0 _ (by show e.val = 64 * 0 + e.val; omega)
  rw [dif_neg h0]
  by_cases h1 : e.val - 64 < 64
  · rw [dif_pos h1]; exact key 1 _ (by show e.val = 64 * 1 + (e.val - 64); omega)
  rw [dif_neg h1]
  by_cases h2 : e.val - 64 - 64 < 64
  · rw [dif_pos h2]; exact key 2 _ (by show e.val = 64 * 2 + (e.val - 64 - 64); omega)
  rw [dif_neg h2]
  exact key 3 _ (by show e.val = 64 * 3 + (e.val - 64 - 64 - 64); omega)

theorem halfV_apply (I : Ins Ideal) (b : Fin 2) (i : Fin 256) (n : Fin 512) :
    halfV I b (ix2 i n) = ∑ e : Fin 256, headAt I b (headNo e) i (headCol e) * I.o (ix2 e n) := by
  rw [halfV_eq, pay15_apply]
  exact Finset.sum_congr rfl fun e _ => by rw [sideBySide_apply, headV_apply]

end Cert.Proof

end
-- ==== Proof.Softmax.lean ====
/-
# Softmax over a window, with and without the row's maximum

Scores that are real numbers, kept where a mask holds: the exponentials over their sum are the same whether the row's maximum
is taken off first or not, and a constant factor may stand on the query weights or on the scores.
-/
module

public import Idealize.ShloMosaic.Lib.Pointwise

@[expose] public section

noncomputable section

namespace Cert.Proof

open Idealize.ShloMosaic

/-- A finite sum of real numbers is the same number over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (a : ℝ) {b : ℝ} (hb : 0 < b) : Ideal.div (a : EReal) (b : EReal) = ((a * b⁻¹ : ℝ) : EReal) := by
  rw [Ideal.div_coe hb.ne', ← EReal.coe_mul, one_div]

section Row
variable {n : ℕ} (t : Fin n → ℝ) (p : Fin n → Prop) [DecidablePred p]

/-- The exponential of a masked score less a real number. -/
def kept (m : ℝ) (j : Fin n) : ℝ := if p j then Real.exp (t j - m) else 0

variable {p} in
theorem kept_sum_pos {i : Fin n} (hi : p i) (m : ℝ) : 0 < ∑ j, kept t p m j :=
  Finset.sum_pos' (fun j _ => by unfold kept; split_ifs; exacts [(Real.exp_pos _).le, le_rfl])
    ⟨i, Finset.mem_univ i, by unfold kept; rw [if_pos hi]; exact Real.exp_pos _⟩

theorem kept_shift (m : ℝ) (j : Fin n) : kept t p m j = kept t p 0 j * Real.exp (-m) := by
  unfold kept
  split_ifs
  · rw [← Real.exp_add]; congr 1; ring
  · rw [zero_mul]

theorem exp_added (j : Fin n) : Ideal.exp ((t j : EReal) + (if p j then 0 else ⊥)) = (kept t p 0 j : EReal) := by
  unfold kept
  split_ifs
  · rw [add_zero, Ideal.exp_coe, sub_zero]
  · rw [EReal.add_bot, Ideal.exp_bot, EReal.coe_zero]

theorem exp_less (m : ℝ) (j : Fin n) : Ideal.exp ((if p j then (t j : EReal) else ⊥) - (m : EReal)) = (kept t p m j : EReal) := by
  unfold kept
  split_ifs
  · rw [← EReal.coe_sub, Ideal.exp_coe]
  · rw [EReal.bot_sub, Ideal.exp_bot, EReal.coe_zero]

variable {p}

/-- The exponentials times the reciprocal of their sum are the shifted exponentials over theirs. -/
theorem softmax_shift {i : Fin n} (hi : p i) (m : ℝ) (j : Fin n) :
    Ideal.exp ((t j : EReal) + (if p j then 0 else ⊥)) * Ideal.div 1 (∑ j', Ideal.exp ((t j' : EReal) + (if p j' then 0 else ⊥)))
      = Ideal.div (Ideal.exp ((if p j then (t j : EReal) else ⊥) - (m : EReal)))
          (∑ j', Ideal.exp ((if p j' then (t j' : EReal) else ⊥) - (m : EReal))) := by
  simp only [exp_added, exp_less]
  rw [← coe_sum, ← coe_sum, ← EReal.coe_one, div_real 1 (kept_sum_pos t hi 0), div_real _ (kept_sum_pos t hi m), ← EReal.coe_mul]
  congr 1
  have h0 := (kept_sum_pos t hi 0).ne'
  have he := (Real.exp_pos (-m)).ne'
  rw [kept_shift t p m j, Finset.sum_congr rfl fun j _ => kept_shift t p m j, ← Finset.sum_mul]
  field_simp

/-- The greatest masked score of a row with a place in the window is a real number. -/
theorem rowMax_real {i : Fin n} (hi : p i) :
    ∃ m : ℝ, Finset.univ.fold max (⊥ : EReal) (fun j => if p j then (t j : EReal) else ⊥) = (m : EReal) := by
  set M := Finset.univ.fold max (⊥ : EReal) (fun j => if p j then (t j : EReal) else ⊥) with hM
  have hb : M ≠ ⊥ := by
    intro h
    have : (if p i then (t i : EReal) else ⊥) ≤ M := (Finset.le_fold_max _).mpr (.inr ⟨i, Finset.mem_univ i, le_rfl⟩)
    rw [h, if_pos hi] at this
    exact EReal.coe_ne_bot _ (le_bot_iff.mp this)
  have ht : M < ⊤ := (Finset.fold_max_lt _).mpr ⟨bot_lt_top, fun j _ => by split_ifs; exacts [EReal.coe_lt_top _, bot_lt_top]⟩
  exact ⟨M.toReal, (EReal.coe_toReal ht.ne hb).symm⟩

end Row

/-- One eighth, as either program writes it. -/
theorem eighth_bf16 : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num

section Scores
variable {a b : ℕ} (x : Fin a → ℝ) (w : Fin a → Fin b → ℝ) (k : Fin b → ℝ)

/-- A score: the scaled product of a projected query and a key. -/
def score : ℝ := (∑ d, (∑ u, x u * w u d) * k d) * (1 / 8)

theorem score_weights : ∑ d, (∑ u, (x u : EReal) * ((w u d : EReal) * ((1 / 8 : ℝ) : EReal))) * (k d : EReal) = (score x w k : EReal) := by
  unfold score
  simp only [← EReal.coe_mul, ← coe_sum]
  congr 1
  rw [Finset.sum_mul]
  refine Finset.sum_congr rfl fun d _ => ?_
  rw [show (∑ u, x u * (w u d * (1 / 8))) = (∑ u, x u * w u d) * (1 / 8) by
    rw [Finset.sum_mul]; exact Finset.sum_congr rfl fun u _ => by ring]
  ring

theorem score_scaled : (∑ d, (∑ u, (x u : EReal) * (w u d : EReal)) * (k d : EReal)) * ((1 / 8 : ℝ) : EReal) = (score x w k : EReal) := by
  unfold score
  simp only [← EReal.coe_mul, ← coe_sum]

end Scores

/-- An extended real other than the infinities is a real number. -/
theorem real_of_finite {ι : Type} {f : ι → EReal} (h : ∀ i, f i ≠ ⊤ ∧ f i ≠ ⊥) : ∃ g : ι → ℝ, f = fun i => (g i : EReal) :=
  ⟨fun i => (f i).toReal, funext fun i => (EReal.coe_toReal (h i).1 (h i).2).symm⟩

end Cert.Proof

end
-- ==== Proof.Host.lean ====
/-
# What is staged, and what is returned

The host operations around the kernel read at an index over the extended reals: the query weights are scaled by one eighth, the
keys and values are cut to the device's four heads and transposed, and the kernel's rows are reshaped into two batches.
-/
module

public import proofs.«01_k».proof.Proof.Frames
public import proofs.«01_k».proof.Proof.Heads
public import proofs.«01_k».proof.Proof.Softmax
public import Idealize.ShloMosaic.Lib.StableHlo.ReadAt
public import Idealize.ShloMosaic.Lib.DynamicIndex

@[expose] public section

set_option maxRecDepth 16384

noncomputable section

namespace Cert.Proof

open Cert.KernelIdeal Cert.KernelIdeal.Gen
open Idealize.ShloMosaic Idealize.ShloMosaic.TcCoe

variable (m : (ℓ : Loc nD τ sig) → Buf (Elt Ideal) ℓ)

/-- A device's arguments: activations, query weights, keys, values and output weights. -/
def argX (c : Dev nD) : S2x256x512.Idx → EReal := m ((c : Thread nD τ).loc main_arg0)
def argQ (c : Dev nD) : S512x256.Idx → EReal := m ((c : Thread nD τ).loc main_arg1)
def argK (c : Dev nD) : S2x256x32x64.Idx → EReal := m ((c : Thread nD τ).loc main_arg2)
def argV (c : Dev nD) : S2x256x32x64.Idx → EReal := m ((c : Thread nD τ).loc main_arg3)
def argO (c : Dev nD) : S256x512.Idx → EReal := m ((c : Thread nD τ).loc main_arg4)

theorem V1_q (c : Dev nD) (u : Fin 512) (e : Fin 256) :
    (V1 m c main_v18 : S512x256.Idx → EReal) (ix2 u e) = argQ m c (ix2 u e) * ((1 / 8 : ℝ) : EReal) := by
  rw [← eighth_bf16]
  unfold V1
  after_reads_at
  rfl

/-- The head among all heads that a device's head is. -/
def headOf (c : Dev nD) (h : Fin 4) : Fin 32 := ⟨4 * c.val + h.val, by have : c.val < 8 := c.isLt; omega⟩

theorem slices_heads (c : Dev nD) : S2x256x32x64.Slices ![0, 0, 4 * c.val, 0] S2x256x4x64 := by
  revert c; decide

/-- The first head the keys and the values are cut at, as the host operations compute it. -/
def startWord (c : Dev nD) : BitVec 32 :=
  let n := IntOp.muli (IntOp.remui .host (IntOp.divui .host (Dev.word c) 1#32) 8#32) 4#32
  Scalar.select (IntOp.cmpi .slt n 0#32) (IntOp.addi n 32#32) n

theorem startWord_eq (c : Dev nD) : (startWord c).toInt = ((4 * c.val : ℕ) : ℤ) := by
  revert c; decide

theorem start_k (c : Dev nD) :
    (StableHlo.upto (hostOps0 c) (V0 m c) 16 (Proc.devRef .tc main_v8) : S_.Idx → BitVec 32) = fun _ => startWord c := by
  after_reads_simp
  rfl
theorem start_v (c : Dev nD) :
    (StableHlo.upto (hostOps0 c) (V0 m c) 27 (Proc.devRef .tc main_v13) : S_.Idx → BitVec 32) = fun _ => startWord c := by
  after_reads_simp
  rfl

theorem V1_k (c : Dev nD) (b : Fin 2) (h : Fin 4) (j : Fin 256) (d : Fin 64) :
    (V1 m c main_v15 : S2x4x256x64.Idx → EReal) (ix4 b h j d) = argK m c (ix4 b j (headOf c h) d) := by
  unfold V1
  after_reads_simp
  rw [Host.dynamicSlice_eq_extractStridedSlice _ _ _ ![0, 0, 4 * c.val, 0] _ (slices_heads c)]
  · clean_types
    pointwise
    rfl
  · intro a
    match a with
    | 0 =>
      show ((StableHlo.upto (hostOps0 c) (V0 m c) 16 (Proc.devRef .tc main_c_4) : S_.Idx → BitVec 32) (Shape.Idx.first h_S_)).toInt = 0
      after_reads_simp
      rfl
    | 1 =>
      show ((StableHlo.upto (hostOps0 c) (V0 m c) 16 (Proc.devRef .tc main_c_5) : S_.Idx → BitVec 32) (Shape.Idx.first h_S_)).toInt = 0
      after_reads_simp
      rfl
    | 2 =>
      show ((StableHlo.upto (hostOps0 c) (V0 m c) 16 (Proc.devRef .tc main_v8) : S_.Idx → BitVec 32) (Shape.Idx.first h_S_)).toInt = _
      rw [start_k]
      exact startWord_eq c
    | 3 =>
      show ((StableHlo.upto (hostOps0 c) (V0 m c) 16 (Proc.devRef .tc main_c_6) : S_.Idx → BitVec 32) (Shape.Idx.first h_S_)).toInt = 0
      after_reads_simp
      rfl

theorem V1_v (c : Dev nD) (b : Fin 2) (h : Fin 4) (j : Fin 256) (d : Fin 64) :
    (V1 m c main_v16 : S2x4x256x64.Idx → EReal) (ix4 b h j d) = argV m c (ix4 b j (headOf c h) d) := by
  unfold V1
  after_reads_simp
  rw [Host.dynamicSlice_eq_extractStridedSlice _ _ _ ![0, 0, 4 * c.val, 0] _ (slices_heads c)]
  · clean_types
    pointwise
    rfl
  · intro a
    match a with
    | 0 =>
      show ((StableHlo.upto (hostOps0 c) (V0 m c) 27 (Proc.devRef .tc main_c_10) : S_.Idx → BitVec 32) (Shape.Idx.first h_S_)).toInt = 0
      after_reads_simp
      rfl
    | 1 =>
      show ((StableHlo.upto (hostOps0 c) (V0 m c) 27 (Proc.devRef .tc main_c_11) : S_.Idx → BitVec 32) (Shape.Idx.first h_S_)).toInt = 0
      after_reads_simp
      rfl
    | 2 =>
      show ((StableHlo.upto (hostOps0 c) (V0 m c) 27 (Proc.devRef .tc main_v13) : S_.Idx → BitVec 32) (Shape.Idx.first h_S_)).toInt = _
      rw [start_v]
      exact startWord_eq c
    | 3 =>
      show ((StableHlo.upto (hostOps0 c) (V0 m c) 27 (Proc.devRef .tc main_c_12) : S_.Idx → BitVec 32) (Shape.Idx.first h_S_)).toInt = 0
      after_reads_simp
      rfl

/-! A window is its whole array, so what is staged is the array. -/

theorem staged_x (c : Dev nD) (i : S2x256x512.Idx) : (stagedIns m c).x i = (V1 m c main_arg0 : S2x256x512.Idx → EReal) i := by
  refine congrArg (V1 m c main_arg0 : S2x256x512.Idx → EReal) (funext fun a => Fin.ext ?_)
  match a with
  | 0 => exact (Nat.zero_add _).trans (Nat.one_mul _)
  | 1 => exact (Nat.zero_add _).trans (Nat.one_mul _)
  | 2 => exact (Nat.zero_add _).trans (Nat.one_mul _)

theorem staged_q (c : Dev nD) (i : S512x256.Idx) : (stagedIns m c).q i = (V1 m c main_v18 : S512x256.Idx → EReal) i := by
  refine congrArg (V1 m c main_v18 : S512x256.Idx → EReal) (funext fun a => Fin.ext ?_)
  match a with
  | 0 => exact (Nat.zero_add _).trans (Nat.one_mul _)
  | 1 => exact (Nat.zero_add _).trans (Nat.one_mul _)

theorem staged_k (c : Dev nD) (i : S2x4x256x64.Idx) : (stagedIns m c).k i = (V1 m c main_v15 : S2x4x256x64.Idx → EReal) i := by
  refine congrArg (V1 m c main_v15 : S2x4x256x64.Idx → EReal) (funext fun a => Fin.ext ?_)
  match a with
  | 0 => exact (Nat.zero_add _).trans (Nat.one_mul _)
  | 1 => exact (Nat.zero_add _).trans (Nat.one_mul _)
  | 2 => exact (Nat.zero_add _).trans (Nat.one_mul _)
  | 3 => exact (Nat.zero_add _).trans (Nat.one_mul _)

theorem staged_v (c : Dev nD) (i : S2x4x256x64.Idx) : (stagedIns m c).v i = (V1 m c main_v16 : S2x4x256x64.Idx → EReal) i := by
  refine congrArg (V1 m c main_v16 : S2x4x256x64.Idx → EReal) (funext fun a => Fin.ext ?_)
  match a with
  | 0 => exact (Nat.zero_add _).trans (Nat.one_mul _)
  | 1 => exact (Nat.zero_add _).trans (Nat.one_mul _)
  | 2 => exact (Nat.zero_add _).trans (Nat.one_mul _)
  | 3 => exact (Nat.zero_add _).trans (Nat.one_mul _)

theorem staged_o (c : Dev nD) (i : S256x512.Idx) : (stagedIns m c).o i = (V1 m c main_arg4 : S256x512.Idx → EReal) i := by
  refine congrArg (V1 m c main_arg4 : S256x512.Idx → EReal) (funext fun a => Fin.ext ?_)
  match a with
  | 0 => exact (Nat.zero_add _).trans (Nat.one_mul _)
  | 1 => exact (Nat.zero_add _).trans (Nat.one_mul _)

/-- The kernel's result array, once the last host operation has reshaped it. -/
theorem V3_out (c : Dev nD) (b : Fin 2) (i : Fin 256) (n : Fin 512) :
    (V3 m (outs m) c main_v20 : S2x256x512.Idx → EReal) (ix3 b i n)
      = outV (stagedIns m) c (ix2 (⟨256 * b.val + i.val, by omega⟩ : Fin 512) n) := by
  have h1 : (V3 m (outs m) c main_v20 : S2x256x512.Idx → EReal) (ix3 b i n)
      = ((dat0 m c).arrAt 5 cfg0.N : S512x512.Idx → EReal) (ix2 (⟨256 * b.val + i.val, by omega⟩ : Fin 512) n) := by
    unfold V3
    after_reads_at
    rw [show (V2 m (outs m) c (Proc.devRef .tc main_v19) : S512x512.Idx → EReal) = (dat0 m c).arrAt 5 cfg0.N from
      (Function.update_self ..).trans (outs_v19 m c)]
    exact congrArg (fun r => ((dat0 m c).arrAt 5 cfg0.N : S512x512.Idx → EReal) (ix2 r n)) (Fin.ext (show b.val * 256 + i.val = 256 * b.val + i.val by omega))
  have hw : ((cfg0.win 5).blk t0_0).view.read (Elt Ideal) ((dat0 m c).arrAt 5 cfg0.N) = (dat0 m c).flushed 5 t0_0 := by
    rw [show cfg0.N = t0_0.val + 1 from rfl, (dat0 m c).arrAt_succ (5 : Fin 6) t0_0, flush0_5, if_pos rfl]; exact View.read_write_univ _ _
  rw [h1]
  refine Eq.trans ?_ (congrFun hw (ix2 (⟨256 * b.val + i.val, by omega⟩ : Fin 512) n))
  refine congrArg ((dat0 m c).arrAt 5 cfg0.N : S512x512.Idx → EReal) (funext fun a => Fin.ext (Eq.symm ?_))
  match a with
  | 0 => exact (Nat.zero_add _).trans (Nat.one_mul _)
  | 1 => exact (Nat.zero_add _).trans (Nat.one_mul _)

end Cert.Proof

end
-- ==== Proof.Total.lean ====
/-
# What every device returns

The running sum of a chunk is the sum of the eight devices' chunks, in whatever order it was taken, so that every device's output
is the sum of the eight partial products.
-/
module

public import proofs.«01_k».proof.Proof.Heads

@[expose] public section

set_option maxRecDepth 16384

noncomputable section

namespace Cert.Proof

open Cert.KernelIdeal Cert.KernelIdeal.Gen
open Idealize.ShloMosaic Idealize.ShloMosaic.TcCoe

variable (I : Dev nD → Ins Ideal)

/-- Entry `i` of the first summand and of a step of the running sum. -/
theorem pay16_apply (x : Blk Ideal) (i : S64x512.Idx) : k0_pay16 (F := Ideal) x i = x i := by
  idx_vars i
  pointwise [k0_pay16]
theorem pay17_apply (a : S64x512.Idx → EReal) (x : Blk Ideal) (i : S64x512.Idx) : k0_pay17 (F := Ideal) a (up x) i = a i + x i := by
  idx_vars i
  pointwise [k0_pay17, up]
/-- The rounded sum as it is widened again. -/
theorem pay26_apply (x : S64x512.Idx → EReal) (i : S64x512.Idx) : k0_pay26 (F := Ideal) (up (k0_pay25 (F := Ideal) x)) i = x i := by
  idx_vars i
  pointwise [k0_pay26, k0_pay25, up]

/-- Device `n`'s summand of a chunk, where it is not device `c`'s own. -/
def otherPart (c : Dev nD) (i : S64x512.Idx) (d : Dev nD) : EReal := if d = c then 0 else chV I d c i

theorem accV_apply (c : Dev nD) (i : S64x512.Idx) (n : ℕ) (hn : n ≤ 8) :
    accV I c n i = chV I c c i + ∑ k ∈ Finset.range n, (if h : k < 8 then otherPart I c i ⟨k, h⟩ else 0) := by
  induction n with
  | zero => rw [Finset.sum_range_zero, add_zero]; exact pay16_apply _ i
  | succ n ih =>
    rw [Finset.sum_range_succ, dif_pos (show n < 8 by omega), ← add_assoc, ← ih (by omega)]
    unfold otherPart
    by_cases h : (⟨n, by omega⟩ : Fin 8) = c
    · rw [if_pos h, add_zero, accV_self I (j := (⟨n, by omega⟩ : Fin 8)) rfl h]
    · rw [if_neg h, accV_peer I (j := (⟨n, by omega⟩ : Fin 8)) rfl h, pay17_apply]

theorem accV_sum (c : Dev nD) (i : S64x512.Idx) : accV I c 8 i = ∑ d : Fin 8, chV I d c i := by
  rw [accV_apply I c i 8 le_rfl, Finset.sum_range]
  have e (d : Fin 8) : chV I d c i = (if d = c then chV I d c i else 0) + otherPart I c i d := by
    unfold otherPart; split_ifs <;> simp
  rw [Finset.sum_congr rfl fun d _ => e d, Finset.sum_add_distrib, Finset.sum_ite_eq', if_pos (Finset.mem_univ _)]
  exact congrArg (_ + ·) (Finset.sum_congr rfl fun d _ => dif_pos d.isLt)

theorem outRow_apply (c j : Dev nD) (i : S64x512.Idx) : outRow I c j i = ∑ d : Fin 8, chV I d j i := by
  unfold outRow
  split_ifs with h
  · rw [h, accV_sum]
  · exact (pay26_apply _ i).trans (accV_sum I j i)

/-- Row `i` of batch `b` of any device's output is the sum of the eight partial products' rows. -/
theorem outV_apply (c : Dev nD) (b : Fin 2) (i : Fin 256) (n : Fin 512) :
    outV I c (ix2 (⟨256 * b.val + i.val, by omega⟩ : Fin 512) n) = ∑ d : Fin 8, halfV (I d) b (ix2 i n) := by
  unfold outV glue
  rw [outRow_apply]
  refine Finset.sum_congr rfl fun d _ => ?_
  have hh : halfOf (⟨(256 * b.val + i.val) / 64, by show _ < 8; omega⟩ : Fin 8) = b :=
    Fin.ext (show (256 * b.val + i.val) / 64 / 4 = b.val by omega)
  refine congr (congrArg (halfV (I d)) hh) (funext fun a => Fin.ext ?_)
  match a with
  | 0 => show 64 * ((256 * b.val + i.val) / 64 % 4) + 1 * ((256 * b.val + i.val) % 64) = i.val; omega
  | 1 => show 0 + 1 * n.val = n.val; omega

end Cert.Proof

end
-- ==== Proof.RefValue.lean ====
/-
# The reference, element by element

The reference's stages read at an index over the extended reals: the projected queries, the scaled scores, the window, the
softmax of each row, the weighted values and the output projection.
-/
module

public import proofs.«01_k».proof.Proof.Heads
public import proofs.«01_k».proof.Proof.Softmax
public import proofs.«01_k».proof.Proof.Gen.ReferenceIdeal.Read
public import Idealize.ShloMosaic.Lib.Pointwise
public import Idealize.ShloMosaic.Lib.Routing.OpsOrder

@[expose] public section

set_option maxRecDepth 16384

noncomputable section

namespace Cert.Proof

open Cert.ReferenceIdeal Cert.ReferenceIdeal.Gen Cert.ReferenceIdeal.Read
open Idealize.ShloMosaic Idealize.ShloMosaic.TcCoe

/-- The word of negative infinity. -/
theorem negInf_f32 : Ideal.ofBits .f32 0xFF800000#32 = ⊥ := by
  simp [Ideal.ofBits, Ideal.ieee]

/-- The column of head `h`'s place `t` among all heads' columns. -/
def wideCol (h : Fin 32) (t : Fin 64) : Fin 2048 := ⟨64 * h.val + t.val, by omega⟩
/-- The head of a column, and its place there. -/
def wideHead (e : Fin 2048) : Fin 32 := ⟨e.val / 64, by omega⟩
def widePlace (e : Fin 2048) : Fin 64 := ⟨e.val % 64, by omega⟩

/-- An array of the reference's over the extended reals. -/
local notation "Arr" s => Shape.Idx s → EReal

section Read
variable (X : Arr S2x256x512) (W : Arr S512x2048) (K V : Arr S2x256x32x64) (O : Arr S2048x512)

theorem ref_query (b : Fin 2) (i : Fin 256) (h : Fin 32) (t : Fin 64) :
    val_main_v2 (F := Ideal) X W (ix4 b i h t) = ∑ u : Fin 512, X (ix3 b i u) * W (ix2 u (wideCol h t)) := by
  pointwise [val_main_v2, val_main_v1, val_main_v0]
  refine Finset.sum_congr rfl fun u _ => ?_
  exact congrArg (fun c => X (ix3 b i u) * W (ix2 u c)) (Fin.ext (show h.val * 64 + t.val = 64 * h.val + t.val by omega))

/-- The scaled score of query `i` and key `j`. -/
def refScore (b : Fin 2) (h : Fin 32) (i j : Fin 256) : EReal :=
  (∑ t : Fin 64, (∑ u : Fin 512, X (ix3 b i u) * W (ix2 u (wideCol h t))) * K (ix4 b j h t)) * ((1 / 8 : ℝ) : EReal)

theorem ref_score (b : Fin 2) (h : Fin 32) (i j : Fin 256) :
    val_main_v17 (F := Ideal) X W K (ix4 b h i j) = refScore X W K b h i j := by
  pointwise [val_main_v17, val_main_v16, val_main_v15, val_main_v14, val_main_v13, val_main_cst]
  rw [eighth_f32]
  simp only [ref_query]
  rfl

theorem ref_window (i j : Fin 256) : val_main_v12 (F := Ideal) (ix2 i j)
    = IntOp.cmpi .sle (IntOp.absi (IntOp.subi (BitVec.ofNat 32 i.val) (BitVec.ofNat 32 j.val))) 128#32 := by
  pointwise [val_main_v12, val_main_v11, val_main_v10, val_main_v9, val_main_v8, val_main_v7, val_main_v6, val_main_v5, val_main_v4, val_main_v3, val_main_c]

/-- The scores kept in the window. -/
def refKept (b : Fin 2) (h : Fin 32) (i j : Fin 256) : EReal := if near i j then refScore X W K b h i j else ⊥

theorem ref_kept (b : Fin 2) (h : Fin 32) (i j : Fin 256) :
    val_main_v19 (F := Ideal) X W K (ix4 b h i j) = refKept X W K b h i j := by
  pointwise [val_main_v19, val_main_call0_v1, val_main_call0_v2, val_main_call0_v0, val_main_cst_0, val_main_v18]
  rw [ref_score, ref_window]
  show Scalar.select _ _ (Ideal.ofBits .f32 0xFF800000#32) = _
  rw [negInf_f32]
  rfl

theorem ref_max (b : Fin 2) (h : Fin 32) (i : Fin 256) :
    val_main_v20 (F := Ideal) X W K (ix3 b h i) = Finset.univ.fold max (⊥ : EReal) (refKept X W K b h i) := by
  pointwise [val_main_v20, val_main_cst_1]
  rw [negInf_f32]
  simp only [ref_kept]

theorem ref_any (i : Fin 256) : val_main_v25 (F := Ideal) (ix1 i) = 1#1 := by
  pointwise [val_main_v25, val_main_c_2]
  exact (Routing.fold_ori _ _).mpr ⟨i, Finset.mem_univ i, by rw [ref_window]; exact near_self i⟩

theorem ref_exp (b : Fin 2) (h : Fin 32) (i j : Fin 256) :
    val_main_v24 (F := Ideal) X W K (ix4 b h i j)
      = Ideal.exp (refKept X W K b h i j - Finset.univ.fold max (⊥ : EReal) (refKept X W K b h i)) := by
  pointwise [val_main_v24, val_main_v23, val_main_v22, val_main_v21]
  rw [ref_kept, ref_max]

/-- The weight of key `j` for query `i`. -/
def refWeight (b : Fin 2) (h : Fin 32) (i j : Fin 256) : EReal :=
  Ideal.div (Ideal.exp (refKept X W K b h i j - Finset.univ.fold max (⊥ : EReal) (refKept X W K b h i)))
    (∑ j', Ideal.exp (refKept X W K b h i j' - Finset.univ.fold max (⊥ : EReal) (refKept X W K b h i)))

theorem ref_weight (b : Fin 2) (h : Fin 32) (i j : Fin 256) :
    val_main_v33 (F := Ideal) X W K (ix4 b h i j) = refWeight X W K b h i j := by
  pointwise [val_main_v33, val_main_call2_v1, val_main_call2_v2, val_main_call2_v0, val_main_cst_5, val_main_v32, val_main_v31,
    val_main_v30, val_main_v29, val_main_call1_v1, val_main_call1_v2, val_main_call1_v0, val_main_cst_4, val_main_v26, val_main_v28,
    val_main_v27, val_main_cst_3]
  simp only [ref_any, ref_exp]
  rfl

theorem ref_out (b : Fin 2) (i : Fin 256) (n : Fin 512) :
    val_main_v39 (F := Ideal) X W K V O (ix3 b i n) = ∑ e : Fin 2048,
      (∑ j : Fin 256, refWeight X W K b (wideHead e) i j * V (ix4 b j (wideHead e) (widePlace e))) * O (ix2 e n) := by
  pointwise [val_main_v39, val_main_v38, val_main_v37, val_main_v36, val_main_v35, val_main_v34]
  simp only [ref_weight]
  exact Finset.sum_congr rfl fun e _ => congrArg (· * O (ix2 e n)) (Finset.sum_congr rfl fun j _ => mul_comm _ _)

end Read

end Cert.Proof

end
-- ==== Proof.Algebraic.lean ====
/-
# The kernel against the reference

For finite activations, query weights and keys every device's result is the reference's, over the extended reals: a device's
heads are four of the reference's, so the eight partial products are the reference's output projection cut into eight ranges of
its summed columns.
-/
module

public import proofs.«01_k».proof.Proof.Host
public import proofs.«01_k».proof.Proof.Total
public import proofs.«01_k».proof.Proof.RefValue
public import Idealize.ShloMosaic.Lib.ReduceAll
public import Idealize.ShloMosaic.Lib.Affine

@[expose] public section

set_option maxRecDepth 16384

noncomputable section

namespace Cert.Proof

open Cert.KernelIdeal Cert.KernelIdeal.Gen
open Idealize.ShloMosaic Idealize.ShloMosaic.TcCoe Idealize.SL.Sem

/-- A compare of absolute values against infinity says that an entry is a real number. -/
theorem finite_of_below {x : EReal} (h : FloatOps.cmpf (F := Ideal) .olt (FloatOps.hostAbsf (φ := .bf16) x) (Ideal.ofBits .bf16 0x7F80#16) = 1#1) :
    x ≠ ⊤ ∧ x ≠ ⊥ := by
  have ht : Ideal.ofBits .bf16 0x7F80#16 = ⊤ := by simp [Ideal.ofBits, Ideal.ieee]
  rw [ht] at h
  constructor <;> rintro rfl <;> revert h <;> simp [FloatOps.cmpf, FloatOps.hostAbsf, Ideal.cmp]

section Memory
variable (m : (ℓ : Loc nD τ sig) → Buf (Elt Ideal) ℓ)

theorem finite_args (c : Dev nD)
    (h : Cert.Pre_finite_KernelIdeal.fn (F := Ideal) (argX m c) (argQ m c) (argK m c) (argV m c) (argO m c) = fun _ => 1#1) :
    (∀ i, argX m c i ≠ ⊤ ∧ argX m c i ≠ ⊥) ∧ (∀ i, argQ m c i ≠ ⊤ ∧ argQ m c i ≠ ⊥) ∧ (∀ i, argK m c i ≠ ⊤ ∧ argK m c i ≠ ⊥) := by
  have h0 := congrFun h ix0
  dsimp only [Cert.Pre_finite_KernelIdeal.fn] at h0
  obtain ⟨h1, hk⟩ := IntOp.andi_eq_one.mp h0
  obtain ⟨hx, hq⟩ := IntOp.andi_eq_one.mp h1
  exact ⟨fun i => finite_of_below (Host.reduce_andi_all _ _ _ _ _ hx i), fun i => finite_of_below (Host.reduce_andi_all _ _ _ _ _ hq i),
    fun i => finite_of_below (Host.reduce_andi_all _ _ _ _ _ hk i)⟩

/-- What the reference's arguments are to a device's. -/
structure Shared (c : Dev nD) (X : S2x256x512.Idx → EReal) (W : Cert.ReferenceIdeal.S512x2048.Idx → EReal) (K V : S2x256x32x64.Idx → EReal)
    (O : Cert.ReferenceIdeal.S2048x512.Idx → EReal) : Prop where
  x : argX m c = X
  k : argK m c = K
  v : argV m c = V
  q (u : Fin 512) (h : Fin 4) (t : Fin 64) : argQ m c (ix2 u (colOf h t)) = W (ix2 u (wideCol (headOf c h) t))
  o (e : Fin 256) (n : Fin 512) : argO m c (ix2 e n) = O (ix2 (⟨256 * c.val + e.val, by have : c.val < 8 := c.isLt; omega⟩ : Fin 2048) n)
  fx : ∀ i, argX m c i ≠ ⊤ ∧ argX m c i ≠ ⊥
  fq : ∀ i, argQ m c i ≠ ⊤ ∧ argQ m c i ≠ ⊥
  fk : ∀ i, argK m c i ≠ ⊤ ∧ argK m c i ≠ ⊥

variable {m} {c : Dev nD} {X : S2x256x512.Idx → EReal} {W : Cert.ReferenceIdeal.S512x2048.Idx → EReal} {K V : S2x256x32x64.Idx → EReal}
  {O : Cert.ReferenceIdeal.S2048x512.Idx → EReal} (S : Shared m c X W K V O)
include S

/-- A row's scores are the same real numbers in both programs. -/
theorem scores_real (b : Fin 2) (h : Fin 4) (i : Fin 256) : ∃ t : Fin 256 → ℝ,
    (∀ j, scoreRow (stagedIns m c) b h i j = (t j : EReal)) ∧ (∀ j, refScore X W K b (headOf c h) i j = (t j : EReal)) := by
  obtain ⟨x, hx⟩ := real_of_finite S.fx
  obtain ⟨q, hq⟩ := real_of_finite S.fq
  obtain ⟨k, hk⟩ := real_of_finite S.fk
  refine ⟨fun j => score (fun u => x (ix3 b i u)) (fun u t => q (ix2 u (colOf h t))) (fun t => k (ix4 b j (headOf c h) t)), fun j => ?_, fun j => ?_⟩
  · rw [← score_weights]
    unfold scoreRow
    refine Finset.sum_congr rfl fun t _ => ?_
    rw [staged_k, V1_k, hk]
    refine congrArg (· * _) (Finset.sum_congr rfl fun u _ => ?_)
    rw [staged_x, staged_q, V1_q, hq, show (V1 m c main_arg0 : S2x256x512.Idx → EReal) = argX m c from V1_of m c main_arg0 (by decide), hx]
  · rw [← score_scaled]
    unfold refScore
    refine congrArg (· * _) (Finset.sum_congr rfl fun t _ => ?_)
    rw [← S.k, hk]
    refine congrArg (· * _) (Finset.sum_congr rfl fun u _ => ?_)
    rw [← S.q, ← S.x, hq, hx]

theorem weights_same (b : Fin 2) (h : Fin 4) (i j : Fin 256) :
    weights (scoreRow (stagedIns m c) b h i) (maskRow i) j = refWeight X W K b (headOf c h) i j := by
  obtain ⟨t, hs, hr⟩ := scores_real S b h i
  have hk : refKept X W K b (headOf c h) i = fun j => if near i j then (t j : EReal) else ⊥ :=
    funext fun j => by unfold refKept; rw [hr]
  obtain ⟨M, hM⟩ := rowMax_real t (near_self i)
  unfold weights refWeight maskRow
  rw [hk, hM]
  simp only [hs]
  exact softmax_shift t (near_self i) M j

theorem head_same (b : Fin 2) (h : Fin 4) (i : Fin 256) (d : Fin 64) :
    headAt (stagedIns m c) b h i d = ∑ j : Fin 256, refWeight X W K b (headOf c h) i j * V (ix4 b j (headOf c h) d) := by
  unfold headAt
  refine Finset.sum_congr rfl fun j _ => ?_
  rw [weights_same S, staged_v, V1_v, S.v]

/-- A device's partial product is its range of the reference's summed columns. -/
theorem half_same (b : Fin 2) (i : Fin 256) (n : Fin 512) :
    halfV (stagedIns m c) b (ix2 i n) = ∑ e : Fin 256, (fun E : Fin 2048 =>
      (∑ j : Fin 256, refWeight X W K b (wideHead E) i j * V (ix4 b j (wideHead E) (widePlace E))) * O (ix2 E n))
        ⟨256 * c.val + e.val, by have : c.val < 8 := c.isLt; omega⟩ := by
  rw [halfV_apply]
  refine Finset.sum_congr rfl fun e _ => ?_
  have hc : c.val < 8 := c.isLt
  have hh : wideHead ⟨256 * c.val + e.val, by omega⟩ = headOf c (headNo e) :=
    Fin.ext (show (256 * c.val + e.val) / 64 = 4 * c.val + e.val / 64 by omega)
  have hp : widePlace ⟨256 * c.val + e.val, by omega⟩ = headCol e := Fin.ext (show (256 * c.val + e.val) % 64 = e.val % 64 by omega)
  rw [head_same S, staged_o, show (V1 m c main_arg4 : S256x512.Idx → EReal) = argO m c from V1_of m c main_arg4 (by decide), S.o]
  show _ = (∑ j, refWeight X W K b (wideHead _) i j * V (ix4 b j (wideHead _) (widePlace _))) * _
  rw [hh, hp]

end Memory

/-- A sum over 2048 columns, taken in eight ranges of 256. -/
theorem sum_ranges (f : Fin 2048 → EReal) :
    ∑ c : Fin 8, ∑ e : Fin 256, f ⟨256 * c.val + e.val, by omega⟩ = ∑ E : Fin 2048, f E := by
  rw [← Fintype.sum_prod_type' (f := fun (c : Fin 8) (e : Fin 256) => f ⟨256 * c.val + e.val, by omega⟩),
    ← Equiv.sum_comp (finProdFinEquiv (m := 8) (n := 256)) f]
  exact Finset.sum_congr rfl fun p _ => congrArg f (Fin.ext (Nat.add_comm _ _))

theorem result_same (m : (ℓ : Loc nD τ sig) → Buf (Elt Ideal) ℓ) {X : S2x256x512.Idx → EReal} {W : Cert.ReferenceIdeal.S512x2048.Idx → EReal}
    {K V : S2x256x32x64.Idx → EReal} {O : Cert.ReferenceIdeal.S2048x512.Idx → EReal} (S : ∀ c, Shared m c X W K V O) (c : Dev nD) :
    (V3 m (outs m) c main_v20 : S2x256x512.Idx → EReal) = Cert.ReferenceIdeal.Read.val_main_v39 (F := Ideal) X W K V O := by
  funext i
  idx_vars i
  rw [V3_out, outV_apply, ref_out, ← sum_ranges]
  exact congrArg (fun f : Fin 8 → EReal => ∑ d, f d) (funext fun d => half_same (S d) i0 i1 i2)

/-- The kernel computes the reference's result. -/
theorem algebraic : Cert.algebraic_KernelIdeal_ReferenceIdeal_pre_finite_KernelIdeal := by
  intro m g m' g' hpre hargs
  refine ⟨Cert.ReferenceIdeal.Value.res_main_v39 m' 0, ?_, ?_⟩
  · refine (θ_run defs _ _).mono (fun r h c => ⟨(h.1 c).1.trans ?_, (h.1 c).2⟩) (run_kept (F := Ideal) m g)
    rw [Cert.ReferenceIdeal.Read.val_main_v39_eq]
    refine result_same m (fun c => ?_) c
    obtain ⟨hx, hq, hk, hv, ho⟩ := hargs c
    have hf := finite_args m c (hpre c)
    refine ⟨hx, hk, hv, fun u h t => ?_, fun e n => ?_, hf.1, hf.2.1, hf.2.2⟩
    · refine (congrFun hq (ix2 u (colOf h t))).trans ?_
      rw [Layout.block_apply]
      refine congrArg (m' _) (funext fun a => Fin.ext ?_)
      match a with
      | ⟨0, _⟩ => rfl
      | ⟨1, _⟩ => exact show c.val * 256 + (64 * h.val + t.val) = 64 * (4 * c.val + h.val) + t.val by omega
    · refine (congrFun ho (ix2 e n)).trans ?_
      rw [Layout.block_apply]
      refine congrArg (m' _) (funext fun a => Fin.ext ?_)
      match a with
      | ⟨0, _⟩ => exact show c.val * 256 + e.val = 256 * c.val + e.val by omega
      | ⟨1, _⟩ => rfl
  · exact (θ_run Cert.ReferenceIdeal.defs _ _).mono (fun r h => h 0) (Cert.ReferenceIdeal.Value.run m' g')

end Cert.Proof

end
-- ==== Proof.lean ====
/-
# The certificate

Every claim of Defs.lean, from the modules that prove them.
-/
module

public import proofs.«01_k».proof.Proof.Frames
public import proofs.«01_k».proof.Proof.Algebraic
public import proofs.«01_k».proof.Proof.Gen.ReferenceIdeal.Run
public import proofs.«01_k».proof.Proof.Gen.ReferenceIdeal.Read

@[expose] public section

noncomputable section

namespace Cert.Proof

open Idealize.ShloMosaic

/-- All claims. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, frame_ideal_finite, frame_reference, frame_reference_finite,
    mask_named, algebraic⟩

end Cert.Proof

end
